-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![64, 16, 8, 64]⟩ ⟨4, ![512, 16, 8, 64]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![64, 16, 8, 64]⟩ ⟨4, ![512, 16, 8, 64]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S8x1 : Shape := ⟨2, ![8, 1]⟩
abbrev S_ : Shape := ⟨0, ![]⟩

class Facts : Prop where
  shapeCasts_S8_S8x1 : S8.ShapeCasts S8x1
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8 : S_.BroadcastsInDim S8 (![] : Fin 0 → Fin S8.rank)
  reducesTo_S8_S_d0 : S8.ReducesTo [0] S_
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S64x16x8x64 : S_.BroadcastsInDim S64x16x8x64 (![] : Fin 0 → Fin S64x16x8x64.rank)
  reducesTo_S64x16x8x64_S_d0_1_2_3 : S64x16x8x64.ReducesTo [0, 1, 2, 3] S_

variable [Facts]

def fn_part1 {F : FTy → Type} [FloatOps F] (main_arg1 : FVec F S64x16x8x64 .f32) (main_v15 : IVec S_ 1) (main_v16 : FVec F S8x1x8x64 .f32) (main_v17 : FVec F S8x1x8x64 .f32) : IVec S_ 1 :=
  let main_v18 : IVec S8x1x8x64 1 := cmpf .olt main_v16 main_v17
  let main_c_4 : IVec S_ 1 := constantI S_ 1 1#1
  let main_v19 : IVec S_ 1 := (fun x v => Host.reduce IntOp.andi x v reducesTo_S8x1x8x64_S_d0_1_2_3 h_S_) main_v18 main_c_4
  let main_v20 : IVec S_ 1 := andi main_v15 main_v19
  let main_v21 : FVec F S64x16x8x64 .f32 := Host.absf main_arg1
  let main_cst_5 : FVec F S_ .f32 := constant S_ .f32 0x7F800000#32
  let main_v22 : FVec F S64x16x8x64 .f32 := broadcastInDim S64x16x8x64 ![] bcast_S_S64x16x8x64 main_cst_5
  let main_v23 : IVec S64x16x8x64 1 := cmpf .olt main_v21 main_v22
  let main_c_6 : IVec S_ 1 := constantI S_ 1 1#1
  let main_v24 : IVec S_ 1 := (fun x v => Host.reduce IntOp.andi x v reducesTo_S64x16x8x64_S_d0_1_2_3 h_S_) main_v23 main_c_6
  let main_v25 : IVec S_ 1 := andi main_v20 main_v24
  main_v25

def fn {F : FTy → Type} [FloatOps F] (main_arg0 : FVec F S8x1x8x64 .f32) (main_arg1 : FVec F S64x16x8x64 .f32) (main_arg2 : FVec F S64x16x8x64 .f32) (main_arg3 : IVec S8x64 32) (main_arg4 : IVec S8 32) : IVec S_ 1 :=
  let main_v0 : IVec S8x64 32 := iotaInDim S8x64 32 1
  let main_v1 : IVec S8x1 32 := shapeCast S8x1 main_arg4 shapeCasts_S8_S8x1
  let main_v2 : IVec S8x64 32 := broadcastInDim S8x64 ![0, 1] bcast_S8x1_S8x64_0_1 main_v1
  let main_v3 : IVec S8x64 1 := cmpi .slt main_v0 main_v2
  let main_v4 : IVec S8x64 1 := noti main_v3
  let main_c : IVec S_ 32 := constantI S_ 32 0#32
  let main_v5 : IVec S8x64 32 := broadcastInDim S8x64 ![] bcast_S_S8x64 main_c
  let main_v6 : IVec S8x64 1 := cmpi .sge main_arg3 main_v5
  let main_c_0 : IVec S_ 32 := constantI S_ 32 512#32
  let main_v7 : IVec S8x64 32 := broadcastInDim S8x64 ![] bcast_S_S8x64 main_c_0
  let main_v8 : IVec S8x64 1 := cmpi .slt main_arg3 main_v7
  let main_v9 : IVec S8x64 1 := andi main_v6 main_v8
  let main_v10 : IVec S8x64 1 := ori main_v4 main_v9
  let main_c_1 : IVec S_ 1 := constantI S_ 1 1#1
  let main_v11 : IVec S_ 1 := (fun x v => Host.reduce IntOp.andi x v reducesTo_S8x64_S_d0_1 h_S_) main_v10 main_c_1
  let main_c_2 : IVec S_ 32 := constantI S_ 32 1#32
  let main_v12 : IVec S8 32 := broadcastInDim S8 ![] bcast_S_S8 main_c_2
  let main_v13 : IVec S8 1 := cmpi .sge main_arg4 main_v12
  let main_c_3 : IVec S_ 1 := constantI S_ 1 1#1
  let main_v14 : IVec S_ 1 := (fun x v => Host.reduce IntOp.andi x v reducesTo_S8_S_d0 h_S_) main_v13 main_c_3
  let main_v15 : IVec S_ 1 := andi main_v14 main_v11
  let main_v16 : FVec F S8x1x8x64 .f32 := Host.absf main_arg0
  let main_cst : FVec F S_ .f32 := constant S_ .f32 0x7F800000#32
  let main_v17 : FVec F S8x1x8x64 .f32 := broadcastInDim S8x1x8x64 ![] bcast_S_S8x1x8x64 main_cst
  fn_part1 (F := F) main_arg1 main_v15 main_v16 main_v17
-- ==== Pre_served_ReferenceIdeal.lean ====
abbrev S8x1x8x64 : Shape := ⟨4, ![8, 1, 8, 64]⟩
abbrev S512x16x8x64 : Shape := ⟨4, ![512, 16, 8, 64]⟩
abbrev S8x64 : Shape := ⟨2, ![8, 64]⟩
abbrev S8 : Shape := ⟨1, ![8]⟩
abbrev S8x1 : Shape := ⟨2, ![8, 1]⟩
abbrev S_ : Shape := ⟨0, ![]⟩

class Facts : Prop where
  shapeCasts_S8_S8x1 : S8.ShapeCasts S8x1
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8 : S_.BroadcastsInDim S8 (![] : Fin 0 → Fin S8.rank)
  reducesTo_S8_S_d0 : S8.ReducesTo [0] S_
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S512x16x8x64 : S_.BroadcastsInDim S512x16x8x64 (![] : Fin 0 → Fin S512x16x8x64.rank)
  reducesTo_S512x16x8x64_S_d0_1_2_3 : S512x16x8x64.ReducesTo [0, 1, 2, 3] S_

variable [Facts]

def fn_part1 {F : FTy → Type} [FloatOps F] (main_arg1 : FVec F S512x16x8x64 .f32) (main_v15 : IVec S_ 1) (main_v16 : FVec F S8x1x8x64 .f32) (main_v17 : FVec F S8x1x8x64 .f32) : IVec S_ 1 :=
  let main_v18 : IVec S8x1x8x64 1 := cmpf .olt main_v16 main_v17
  let main_c_4 : IVec S_ 1 := constantI S_ 1 1#1
  let main_v19 : IVec S_ 1 := (fun x v => Host.reduce IntOp.andi x v reducesTo_S8x1x8x64_S_d0_1_2_3 h_S_) main_v18 main_c_4
  let main_v20 : IVec S_ 1 := andi main_v15 main_v19
  let main_v21 : FVec F S512x16x8x64 .f32 := Host.absf main_arg1
  let main_cst_5 : FVec F S_ .f32 := constant S_ .f32 0x7F800000#32
  let main_v22 : FVec F S512x16x8x64 .f32 := broadcastInDim S512x16x8x64 ![] bcast_S_S512x16x8x64 main_cst_5
  let main_v23 : IVec S512x16x8x64 1 := cmpf .olt main_v21 main_v22
  let main_c_6 : IVec S_ 1 := constantI S_ 1 1#1
  let main_v24 : IVec S_ 1 := (fun x v => Host.reduce IntOp.andi x v reducesTo_S512x16x8x64_S_d0_1_2_3 h_S_) main_v23 main_c_6
  let main_v25 : IVec S_ 1 := andi main_v20 main_v24
  main_v25

def fn {F : FTy → Type} [FloatOps F] (main_arg0 : FVec F S8x1x8x64 .f32) (main_arg1 : FVec F S512x16x8x64 .f32) (main_arg2 : FVec F S512x16x8x64 .f32) (main_arg3 : IVec S8x64 32) (main_arg4 : IVec S8 32) : IVec S_ 1 :=
  let main_v0 : IVec S8x64 32 := iotaInDim S8x64 32 1
  let main_v1 : IVec S8x1 32 := shapeCast S8x1 main_arg4 shapeCasts_S8_S8x1
  let main_v2 : IVec S8x64 32 := broadcastInDim S8x64 ![0, 1] bcast_S8x1_S8x64_0_1 main_v1
  let main_v3 : IVec S8x64 1 := cmpi .slt main_v0 main_v2
  let main_v4 : IVec S8x64 1 := noti main_v3
  let main_c : IVec S_ 32 := constantI S_ 32 0#32
  let main_v5 : IVec S8x64 32 := broadcastInDim S8x64 ![] bcast_S_S8x64 main_c
  let main_v6 : IVec S8x64 1 := cmpi .sge main_arg3 main_v5
  let main_c_0 : IVec S_ 32 := constantI S_ 32 512#32
  let main_v7 : IVec S8x64 32 := broadcastInDim S8x64 ![] bcast_S_S8x64 main_c_0
  let main_v8 : IVec S8x64 1 := cmpi .slt main_arg3 main_v7
  let main_v9 : IVec S8x64 1 := andi main_v6 main_v8
  let main_v10 : IVec S8x64 1 := ori main_v4 main_v9
  let main_c_1 : IVec S_ 1 := constantI S_ 1 1#1
  let main_v11 : IVec S_ 1 := (fun x v => Host.reduce IntOp.andi x v reducesTo_S8x64_S_d0_1 h_S_) main_v10 main_c_1
  let main_c_2 : IVec S_ 32 := constantI S_ 32 1#32
  let main_v12 : IVec S8 32 := broadcastInDim S8 ![] bcast_S_S8 main_c_2
  let main_v13 : IVec S8 1 := cmpi .sge main_arg4 main_v12
  let main_c_3 : IVec S_ 1 := constantI S_ 1 1#1
  let main_v14 : IVec S_ 1 := (fun x v => Host.reduce IntOp.andi x v reducesTo_S8_S_d0 h_S_) main_v13 main_c_3
  let main_v15 : IVec S_ 1 := andi main_v14 main_v11
  let main_v16 : FVec F S8x1x8x64 .f32 := Host.absf main_arg0
  let main_cst : FVec F S_ .f32 := constant S_ .f32 0x7F800000#32
  let main_v17 : FVec F S8x1x8x64 .f32 := broadcastInDim S8x1x8x64 ![] bcast_S_S8x1x8x64 main_cst
  fn_part1 (F := F) main_arg1 main_v15 main_v16 main_v17
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S8x64x66 : Shape := ⟨3, ![8, 64, 66]⟩
abbrev S_ : Shape := ⟨0, ![]⟩
abbrev S8x512 : Shape := ⟨2, ![8, 512]⟩
abbrev S8x1 : Shape := ⟨2, ![8, 1]⟩
abbrev S8x64x1024 : Shape := ⟨3, ![8, 64, 1024]⟩
abbrev S8x64x1 : Shape := ⟨3, ![8, 64, 1]⟩
abbrev S8x1024 : Shape := ⟨2, ![8, 1024]⟩
abbrev S64x8 : Shape := ⟨2, ![64, 8]⟩
abbrev S64x512 : Shape := ⟨2, ![64, 512]⟩
abbrev S64x1024 : Shape := ⟨2, ![64, 1024]⟩
abbrev S1024x512 : Shape := ⟨2, ![1024, 512]⟩
abbrev S64 : Shape := ⟨1, ![64]⟩
abbrev S64x1 : Shape := ⟨2, ![64, 1]⟩
abbrev S64x64 : Shape := ⟨2, ![64, 64]⟩
abbrev S64x66 : Shape := ⟨2, ![64, 66]⟩
abbrev S1x64x66 : Shape := ⟨3, ![1, 64, 66]⟩
abbrev S1 : Shape := ⟨1, ![1]⟩
abbrev S8x64x64 : Shape := ⟨3, ![8, 64, 64]⟩
abbrev S1x64x1 : Shape := ⟨3, ![1, 64, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x1x8x64, .f32⟩
  | .hbm, ⟨1, _⟩ => ⟨S64x16x8x64, .f32⟩
  | .hbm, ⟨2, _⟩ => ⟨S64x16x8x64, .f32⟩
  | .hbm, ⟨3, _⟩ => ⟨S8x64, .i32⟩
  | .hbm, ⟨4, _⟩ => ⟨S8, .i32⟩
  | .hbm, ⟨5, _⟩ => ⟨S8x1x8x64, .f32⟩
  | .local _ .vmem, ⟨0, _⟩ => ⟨S8x1x8x64, .f32⟩
  | .local _ .vmem, ⟨1, _⟩ => ⟨S64x16x8x64, .f32⟩
  | .local _ .vmem, ⟨2, _⟩ => ⟨S64x16x8x64, .f32⟩
  | .local _ .vmem, ⟨3, _⟩ => ⟨S8x64, .i32⟩
  | .local _ .vmem, ⟨4, _⟩ => ⟨S8, .i32⟩
  | .local _ .vmem, ⟨5, _⟩ => ⟨S8x1x8x64, .f32⟩
  | .local _ .vmem, ⟨6, _⟩ => ⟨S8x64x66, .f32⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_117 : BitVec 32 := 1#32
  let v264 : BitVec 32 := Scalar.addi v2 c1_i32_117
  let c8_i32_118 : BitVec 32 := 8#32
  let c0_i32_119 : BitVec 32 := 0#32
  let v265 : BitVec 1 := Scalar.cmpi .eq c8_i32_118 c0_i32_119
  let c1_i32_120 : BitVec 32 := 1#32
  let v266 : BitVec 32 := Scalar.select v265 c1_i32_120 c8_i32_118
  let v267 : BitVec 32 := Scalar.remsi v264 v266
  let c0_i32_122 : BitVec 32 := 0#32
  let v269 : BitVec 1 := Scalar.cmpi .slt v267 c0_i32_122
  let c0_i32_123 : BitVec 32 := 0#32
  let v270 : BitVec 1 := Scalar.cmpi .slt v266 c0_i32_123
  let v271 : BitVec 1 := Scalar.xori v269 v270
  let c0_i32_121 : BitVec 32 := 0#32
  let v268 : BitVec 1 := Scalar.cmpi .ne v267 c0_i32_121
  let v272 : BitVec 1 := Scalar.andi v271 v268
  let v273 : BitVec 32 := Scalar.addi v267 v266
  let v274 : BitVec 32 := Scalar.select v272 v273 v267
  let c1_i32_128 : BitVec 32 := 1#32
  let v275 : BitVec 32 := Scalar.muli v274 c1_i32_128
  let v276 : BitVec 32 := Scalar.addi c0_i32_129 v275
  v276.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_134 : BitVec 32 := 2#32
  let v285 : BitVec 32 := Scalar.addi v2 c2_i32_134
  let c8_i32_135 : BitVec 32 := 8#32
  let c0_i32_136 : BitVec 32 := 0#32
  let v286 : BitVec 1 := Scalar.cmpi .eq c8_i32_135 c0_i32_136
  let c1_i32_137 : BitVec 32 := 1#32
  let v287 : BitVec 32 := Scalar.select v286 c1_i32_137 c8_i32_135
  let v288 : BitVec 32 := Scalar.remsi v285 v287
  let c0_i32_139 : BitVec 32 := 0#32
  let v290 : BitVec 1 := Scalar.cmpi .slt v288 c0_i32_139
  let c0_i32_140 : BitVec 32 := 0#32
  let v291 : BitVec 1 := Scalar.cmpi .slt v287 c0_i32_140
  let v292 : BitVec 1 := Scalar.xori v290 v291
  let c0_i32_138 : BitVec 32 := 0#32
  let v289 : BitVec 1 := Scalar.cmpi .ne v288 c0_i32_138
  let v293 : BitVec 1 := Scalar.andi v292 v289
  let v294 : BitVec 32 := Scalar.addi v288 v287
  let v295 : BitVec 32 := Scalar.select v293 v294 v288
  let c1_i32_145 : BitVec 32 := 1#32
  let v296 : BitVec 32 := Scalar.muli v295 c1_i32_145
  let v297 : BitVec 32 := Scalar.addi c0_i32_146 v296
  v297.toNat
def k0_dev10 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_151 : BitVec 32 := 3#32
  let v306 : BitVec 32 := Scalar.addi v2 c3_i32_151
  let c8_i32_152 : BitVec 32 := 8#32
  let c0_i32_153 : BitVec 32 := 0#32
  let v307 : BitVec 1 := Scalar.cmpi .eq c8_i32_152 c0_i32_153
  let c1_i32_154 : BitVec 32 := 1#32
  let v308 : BitVec 32 := Scalar.select v307 c1_i32_154 c8_i32_152
  let v309 : BitVec 32 := Scalar.remsi v306 v308
  let c0_i32_156 : BitVec 32 := 0#32
  let v311 : BitVec 1 := Scalar.cmpi .slt v309 c0_i32_156
  let c0_i32_157 : BitVec 32 := 0#32
  let v312 : BitVec 1 := Scalar.cmpi .slt v308 c0_i32_157
  let v313 : BitVec 1 := Scalar.xori v311 v312
  let c0_i32_155 : BitVec 32 := 0#32
  let v310 : BitVec 1 := Scalar.cmpi .ne v309 c0_i32_155
  let v314 : BitVec 1 := Scalar.andi v313 v310
  let v315 : BitVec 32 := Scalar.addi v309 v308
  let v316 : BitVec 32 := Scalar.select v314 v315 v309
  let c1_i32_162 : BitVec 32 := 1#32
  let v317 : BitVec 32 := Scalar.muli v316 c1_i32_162
  let v318 : BitVec 32 := Scalar.addi c0_i32_163 v317
  v318.toNat
def k0_dev11 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_168 : BitVec 32 := 4#32
  let v327 : BitVec 32 := Scalar.addi v2 c4_i32_168
  let c8_i32_169 : BitVec 32 := 8#32
  let c0_i32_170 : BitVec 32 := 0#32
  let v328 : BitVec 1 := Scalar.cmpi .eq c8_i32_169 c0_i32_170
  let c1_i32_171 : BitVec 32 := 1#32
  let v329 : BitVec 32 := Scalar.select v328 c1_i32_171 c8_i32_169
  let v330 : BitVec 32 := Scalar.remsi v327 v329
  let c0_i32_173 : BitVec 32 := 0#32
  let v332 : BitVec 1 := Scalar.cmpi .slt v330 c0_i32_173
  let c0_i32_174 : BitVec 32 := 0#32
  let v333 : BitVec 1 := Scalar.cmpi .slt v329 c0_i32_174
  let v334 : BitVec 1 := Scalar.xori v332 v333
  let c0_i32_172 : BitVec 32 := 0#32
  let v331 : BitVec 1 := Scalar.cmpi .ne v330 c0_i32_172
  let v335 : BitVec 1 := Scalar.andi v334 v331
  let v336 : BitVec 32 := Scalar.addi v330 v329
  let v337 : BitVec 32 := Scalar.select v335 v336 v330
  let c1_i32_179 : BitVec 32 := 1#32
  let v338 : BitVec 32 := Scalar.muli v337 c1_i32_179
  let v339 : BitVec 32 := Scalar.addi c0_i32_180 v338
  v339.toNat
def k0_dev12 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_185 : BitVec 32 := 5#32
  let v348 : BitVec 32 := Scalar.addi v2 c5_i32_185
  let c8_i32_186 : BitVec 32 := 8#32
  let c0_i32_187 : BitVec 32 := 0#32
  let v349 : BitVec 1 := Scalar.cmpi .eq c8_i32_186 c0_i32_187
  let c1_i32_188 : BitVec 32 := 1#32
  let v350 : BitVec 32 := Scalar.select v349 c1_i32_188 c8_i32_186
  let v351 : BitVec 32 := Scalar.remsi v348 v350
  let c0_i32_190 : BitVec 32 := 0#32
  let v353 : BitVec 1 := Scalar.cmpi .slt v351 c0_i32_190
  let c0_i32_191 : BitVec 32 := 0#32
  let v354 : BitVec 1 := Scalar.cmpi .slt v350 c0_i32_191
  let v355 : BitVec 1 := Scalar.xori v353 v354
  let c0_i32_189 : BitVec 32 := 0#32
  let v352 : BitVec 1 := Scalar.cmpi .ne v351 c0_i32_189
  let v356 : BitVec 1 := Scalar.andi v355 v352
  let v357 : BitVec 32 := Scalar.addi v351 v350
  let v358 : BitVec 32 := Scalar.select v356 v357 v351
  let c1_i32_196 : BitVec 32 := 1#32
  let v359 : BitVec 32 := Scalar.muli v358 c1_i32_196
  let v360 : BitVec 32 := Scalar.addi c0_i32_197 v359
  v360.toNat
def k0_dev13 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_202 : BitVec 32 := 6#32
  let v369 : BitVec 32 := Scalar.addi v2 c6_i32_202
  let c8_i32_203 : BitVec 32 := 8#32
  let c0_i32_204 : BitVec 32 := 0#32
  let v370 : BitVec 1 := Scalar.cmpi .eq c8_i32_203 c0_i32_204
  let c1_i32_205 : BitVec 32 := 1#32
  let v371 : BitVec 32 := Scalar.select v370 c1_i32_205 c8_i32_203
  let v372 : BitVec 32 := Scalar.remsi v369 v371
  let c0_i32_207 : BitVec 32 := 0#32
  let v374 : BitVec 1 := Scalar.cmpi .slt v372 c0_i32_207
  let c0_i32_208 : BitVec 32 := 0#32
  let v375 : BitVec 1 := Scalar.cmpi .slt v371 c0_i32_208
  let v376 : BitVec 1 := Scalar.xori v374 v375
  let c0_i32_206 : BitVec 32 := 0#32
  let v373 : BitVec 1 := Scalar.cmpi .ne v372 c0_i32_206
  let v377 : BitVec 1 := Scalar.andi v376 v373
  let v378 : BitVec 32 := Scalar.addi v372 v371
  let v379 : BitVec 32 := Scalar.select v377 v378 v372
  let c1_i32_213 : BitVec 32 := 1#32
  let v380 : BitVec 32 := Scalar.muli v379 c1_i32_213
  let v381 : BitVec 32 := Scalar.addi c0_i32_214 v380
  v381.toNat
def k0_dev14 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_219 : BitVec 32 := 7#32
  let v390 : BitVec 32 := Scalar.addi v2 c7_i32_219
  let c8_i32_220 : BitVec 32 := 8#32
  let c0_i32_221 : BitVec 32 := 0#32
  let v391 : BitVec 1 := Scalar.cmpi .eq c8_i32_220 c0_i32_221
  let c1_i32_222 : BitVec 32 := 1#32
  let v392 : BitVec 32 := Scalar.select v391 c1_i32_222 c8_i32_220
  let v393 : BitVec 32 := Scalar.remsi v390 v392
  let c0_i32_224 : BitVec 32 := 0#32
  let v395 : BitVec 1 := Scalar.cmpi .slt v393 c0_i32_224
  let c0_i32_225 : BitVec 32 := 0#32
  let v396 : BitVec 1 := Scalar.cmpi .slt v392 c0_i32_225
  let v397 : BitVec 1 := Scalar.xori v395 v396
  let c0_i32_223 : BitVec 32 := 0#32
  let v394 : BitVec 1 := Scalar.cmpi .ne v393 c0_i32_223
  let v398 : BitVec 1 := Scalar.andi v397 v394
  let v399 : BitVec 32 := Scalar.addi v393 v392
  let v400 : BitVec 32 := Scalar.select v398 v399 v393
  let c1_i32_230 : BitVec 32 := 1#32
  let v401 : BitVec 32 := Scalar.muli v400 c1_i32_230
  let v402 : BitVec 32 := Scalar.addi c0_i32_231 v401
  v402.toNat
abbrev stage0_0 : Fin 1 → Memref sig .tc .vmem S8x1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x1x8x64 : Shape := ⟨4, ![8, 1, 8, 64]⟩
abbrev S512x16x8x64 : Shape := ⟨4, ![512, 16, 8, 64]⟩
abbrev S8x64 : Shape := ⟨2, ![8, 64]⟩
abbrev S8 : Shape := ⟨1, ![8]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S8x8x1x1024 : Shape := ⟨4, ![8, 8, 1, 1024]⟩
abbrev S_ : Shape := ⟨0, ![]⟩
abbrev S8x1x1x1024 : Shape := ⟨4, ![8, 1, 1, 1024]⟩
abbrev S8x1x1x1 : Shape := ⟨4, ![8, 1, 1, 1]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 55
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S512x16x8x64, .f32⟩
  | .hbm, ⟨2, _⟩ => ⟨S512x16x8x64, .f32⟩
  | .hbm, ⟨3, _⟩ => ⟨S8x64, .i32⟩
  | .hbm, ⟨4, _⟩ => ⟨S8, .i32⟩
  | .hbm, ⟨5, _⟩ => ⟨S8x64x1, .i32⟩
  | .hbm, ⟨6, _⟩ => ⟨S8x64x16x8x64, .f32⟩
  | .hbm, ⟨7, _⟩ => ⟨S8x1024x8x64, .f32⟩
  | .hbm, ⟨8, _⟩ => ⟨S8x64x1, .i32⟩
  | .hbm, ⟨9, _⟩ => ⟨S8x64x16x8x64, .f32⟩
  | .hbm, ⟨10, _⟩ => ⟨S8x1024x8x64, .f32⟩
  | .hbm, ⟨11, _⟩ => ⟨S8x8x1x1024, .f32⟩
  | .hbm, ⟨12, _⟩ => ⟨S_, .f32⟩
  | .hbm, ⟨13, _⟩ => ⟨S8x8x1x1024, .f32⟩
  | .hbm, ⟨14, _⟩ => ⟨S8x8x1x1024, .f32⟩
  | .hbm, ⟨15, _⟩ => ⟨S8x1x1x1024, .i32⟩
  | .hbm, ⟨16, _⟩ => ⟨S_, .i32⟩
  | .hbm, ⟨17, _⟩ => ⟨S_, .i32⟩
  | .hbm, ⟨18, _⟩ => ⟨S8x1x1x1024, .i32⟩
  | .hbm, ⟨19, _⟩ => ⟨S8x1x1x1024, .i32⟩
  | .hbm, ⟨20, _⟩ => ⟨S8x1x1x1024, .i32⟩
  | .hbm, ⟨21, _⟩ => ⟨S_, .i32⟩
  | .hbm, ⟨22, _⟩ => ⟨S8x1x1x1024, .i32⟩
  | .hbm, ⟨23, _⟩ => ⟨S8x1x1x1024, .i1⟩
  | .hbm, ⟨24, _⟩ => ⟨S8x1x1x1024, .i32⟩
  | .hbm, ⟨25, _⟩ => ⟨S8x1x1x1024, .i32⟩
  | .hbm, ⟨26, _⟩ => ⟨S_, .i32⟩
  | .hbm, ⟨27, _⟩ => ⟨S8x1x1x1024, .i32⟩
  | .hbm, ⟨28, _⟩ => ⟨S8x1x1x1024, .i1⟩
  | .hbm, ⟨29, _⟩ => ⟨S8x1x1x1024, .i1⟩
  | .hbm, ⟨30, _⟩ => ⟨S_, .i32⟩
  | .hbm, ⟨31, _⟩ => ⟨S8x1x1x1024, .i32⟩
  | .hbm, ⟨32, _⟩ => ⟨S8x1x1x1024, .i32⟩
  | .hbm, ⟨33, _⟩ => ⟨S8x1x1x1024, .i32⟩
  | .hbm, ⟨34, _⟩ => ⟨S8x1x1x1, .i32⟩
  | .hbm, ⟨35, _⟩ => ⟨S8x1x1x1024, .i32⟩
  | .hbm, ⟨36, _⟩ => ⟨S8x1x1x1024, .i1⟩
  | .hbm, ⟨37, _⟩ => ⟨S_, .f32⟩
  | .hbm, ⟨38, _⟩ => ⟨S_, .f32⟩
  | .hbm, ⟨39, _⟩ => ⟨S8x8x1x1024, .i1⟩
  | .hbm, ⟨40, _⟩ => ⟨S8x8x1x1024, .f32⟩
  | .hbm, ⟨41, _⟩ => ⟨S8x8x1x1024, .f32⟩
  | .hbm, ⟨42, _⟩ => ⟨S_, .f32⟩
  | .hbm, ⟨43, _⟩ => ⟨S8x8x1, .f32⟩
  | .hbm, ⟨44, _⟩ => ⟨S8x8x1x1, .f32⟩
  | .hbm, ⟨45, _⟩ => ⟨S8x8x1x1024, .f32⟩
  | .hbm, ⟨46, _⟩ => ⟨S8x8x1x1024, .f32⟩
  | .hbm, ⟨47, _⟩ => ⟨S8x8x1x1024, .f32⟩
  | .hbm, ⟨48, _⟩ => ⟨S_, .f32⟩
  | .hbm, ⟨49, _⟩ => ⟨S8x8x1, .f32⟩
  | .hbm, ⟨50, _⟩ => ⟨S8x8x1x1, .f32⟩
  | .hbm, ⟨51, _⟩ => ⟨S8x8x1x1024, .f32⟩
  | .hbm, ⟨52, _⟩ => ⟨S8x8x1x1024, .f32⟩
  | .hbm, ⟨53, _⟩ => ⟨S8x8x64x1, .f32⟩
  | .hbm, ⟨54, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_call2_v5 : Ref sig .tc := ⟨.hbm, 22, rfl⟩
abbrev main_call2_v6 : Ref sig .tc := ⟨.hbm, 23, rfl⟩
abbrev main_call2_v7 : Ref sig .tc := ⟨.hbm, 24, rfl⟩
abbrev main_call2_v8 : Ref sig .tc := ⟨.hbm, 25, rfl⟩
abbrev main_call2_c : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_call2_c_0 : Ref sig .tc := ⟨.hbm, 30, rfl⟩
abbrev main_call2_v12 : Ref sig .tc := ⟨.hbm, 31, rfl⟩
abbrev main_call2_v13 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩

abbrev nD : Nat := 1
abbrev τ : Topo := Topo.v7x

variable {F : FTy → Type} [FloatOps F]
-- ==== Proof.Slots.lean ====
/-
The gather of the softmax statistics, 1: the mesh, the slots of the gathered array, its semaphores and what the array
holds.

Every device holds an array of eight slots. Slot `0` is its own row of statistics; slot `e` receives the row of the device
`e` places before it. All eight slots of all eight devices are described by ONE contents function (`gathered`): slot `e` of
device `c` holds the row device `c - e` computed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Ring
public import Idealize.ShloMosaic.Lib.Pipeline.ValueKit.Geometry
public import Idealize.ShloMosaic.Lib.Tactic

@[expose] public section

noncomputable section

namespace Cert.GatherStats

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The mesh as a circle of eight -/

/-- The device `e` places after `c`. -/
def peer (c : Dev nD) (e : Fin 8) : Dev nD := ⟨(c.val + e.val) % 8, Nat.mod_lt _ (by decide)⟩

/-- Going `e` on and then `-e` on is standing still. -/
theorem peer_back (c : Dev nD) (e : Fin 8) : peer (peer c e) (-e) = c := by revert c e; decide
theorem peer_forth (c : Dev nD) (e : Fin 8) : peer (peer c (-e)) e = c := by revert c e; decide
theorem peer_zero (c : Dev nD) : peer c (-0) = c := by revert c; decide

/-- Every device is reached from `c` by its difference. -/
theorem peer_eq_iff (c d : Dev nD) (e : Fin 8) : Iff (peer d e = c) (d = peer c (-e)) := by revert c d e; decide

/-! The devices the kernel's eight-fold wrapped additions name. -/

theorem sig1_eq (c : Dev nD) : (⟨k0_dev1 c, k0_dev1_lt c⟩ : Dev nD) = peer c 1 := by revert c; decide +kernel
theorem sig2_eq (c : Dev nD) : (⟨k0_dev2 c, k0_dev2_lt c⟩ : Dev nD) = peer c 2 := by revert c; decide +kernel
theorem sig3_eq (c : Dev nD) : (⟨k0_dev3 c, k0_dev3_lt c⟩ : Dev nD) = peer c 3 := by revert c; decide +kernel
theorem sig4_eq (c : Dev nD) : (⟨k0_dev4 c, k0_dev4_lt c⟩ : Dev nD) = peer c 4 := by revert c; decide +kernel
theorem sig5_eq (c : Dev nD) : (⟨k0_dev5 c, k0_dev5_lt c⟩ : Dev nD) = peer c 5 := by revert c; decide +kernel
theorem sig6_eq (c : Dev nD) : (⟨k0_dev6 c, k0_dev6_lt c⟩ : Dev nD) = peer c 6 := by revert c; decide +kernel
theorem sig7_eq (c : Dev nD) : (⟨k0_dev7 c, k0_dev7_lt c⟩ : Dev nD) = peer c 7 := by revert c; decide +kernel
theorem snd1_eq (c : Dev nD) : (⟨k0_dev8 c, k0_dev8_lt c⟩ : Dev nD) = peer c 1 := by revert c; decide +kernel
theorem snd2_eq (c : Dev nD) : (⟨k0_dev9 c, k0_dev9_lt c⟩ : Dev nD) = peer c 2 := by revert c; decide +kernel
theorem snd3_eq (c : Dev nD) : (⟨k0_dev10 c, k0_dev10_lt c⟩ : Dev nD) = peer c 3 := by revert c; decide +kernel
theorem snd4_eq (c : Dev nD) : (⟨k0_dev11 c, k0_dev11_lt c⟩ : Dev nD) = peer c 4 := by revert c; decide +kernel
theorem snd5_eq (c : Dev nD) : (⟨k0_dev12 c, k0_dev12_lt c⟩ : Dev nD) = peer c 5 := by revert c; decide +kernel
theorem snd6_eq (c : Dev nD) : (⟨k0_dev13 c, k0_dev13_lt c⟩ : Dev nD) = peer c 6 := by revert c; decide +kernel
theorem snd7_eq (c : Dev nD) : (⟨k0_dev14 c, k0_dev14_lt c⟩ : Dev nD) = peer c 7 := by revert c; decide +kernel

/-! ## Slots and semaphores -/

theorem slot_inb (e : Fin 8) : ∀ a, (![e.val, 0, 0] : Fin 3 → Nat) a + S1x64x66.size a ≤ S8x64x66.size a := by
  revert e; decide
theorem sem_inb (e : Fin 8) : ∀ a, (![e.val] : Fin 1 → Nat) a + S1.size a ≤ S8.size a := by
  revert e; decide

/-- The gathered array, whole. -/
abbrev allM : Memref sig .tc .vmem S8x64x66 .f32 := Memref.whole cc0_scratch0
/-- Slot `e` as a rectangle of it. -/
abbrev slotR (e : Fin 8) : Rect S8x64x66 := Rect.unit (s := S8x64x66) ![e.val, 0, 0] S1x64x66.size (slot_inb e)
/-- Slot `e` as a transfer names it. -/
abbrev slotM (e : Fin 8) : Memref sig .tc .vmem S64x66 .f32 :=
  (allM.slice (slotR e) (fun _ => rfl)).squeeze S64x66 squeezes_S1x64x66_S64x66

/-- The runtime's barrier semaphore, and the send and the receive semaphore of distance `e`. -/
abbrev barS : Sem sig := (SemArray.scalar (sig.barrier 0 rfl) : Sems sig S_).sem
abbrev sndS (e : Fin 8) : DmaSem sig :=
  ((cc0_scratch1.slice (Rect.unit (s := S8) ![e.val] S1.size (sem_inb e))).squeeze S_ squeezes_S1_S_).sem
abbrev rcvS (e : Fin 8) : DmaSem sig :=
  ((cc0_scratch2.slice (Rect.unit (s := S8) ![e.val] S1.size (sem_inb e))).squeeze S_ squeezes_S1_S_).sem

abbrev barCell (c : Dev nD) : GSem nD τ sig := ((c : Thread nD τ), .reg barS)
abbrev sndCell (c : Dev nD) (e : Fin 8) : GSem nD τ sig := ((c : Thread nD τ), .dma (sndS e))
abbrev rcvCell (c : Dev nD) (e : Fin 8) : GSem nD τ sig := ((c : Thread nD τ), .dma (rcvS e))

/-- The send and receive semaphores are sixteen different ones. -/
theorem sndS_val (e : Fin 8) : (sndS e).val = 6 + e.val := by revert e; decide +kernel
theorem rcvS_val (e : Fin 8) : (rcvS e).val = 14 + e.val := by revert e; decide +kernel
theorem sndS_inj {e e' : Fin 8} (h : sndS e = sndS e') : e = e' := by
  have := congrArg Fin.val h; rw [sndS_val, sndS_val] at this; exact Fin.ext (by omega)
theorem rcvS_inj {e e' : Fin 8} (h : rcvS e = rcvS e') : e = e' := by
  have := congrArg Fin.val h; rw [rcvS_val, rcvS_val] at this; exact Fin.ext (by omega)
theorem snd_ne_rcv (e e' : Fin 8) : sndS e ≠ rcvS e' := fun h => by
  have := congrArg Fin.val h; rw [sndS_val, rcvS_val] at this; have := e.isLt; omega

/-- What a transfer into a slot credits. -/
abbrev N : ℕ := (slotM 0).view.dmaCredit
theorem N_pos : 0 < N := View.dmaCredit_pos _ (by decide)
theorem slot_credit (e : Fin 8) : (slotM e).view.dmaCredit = N := rfl

/-! ## What lies in a slot -/

/-- The element `x` of slot `e`, as an element of the array: the slot's number in front. -/
def slotIx (e : Fin 8) (x : S64x66.Idx) : S8x64x66.Idx := fun a =>
  match a with
  | ⟨0, _⟩ => e
  | ⟨1, _⟩ => x 0
  | ⟨2, _⟩ => x 1

/-- The place of an array element within its slot. -/
def inSlot (i : S8x64x66.Idx) : S64x66.Idx := fun a =>
  match a with
  | ⟨0, _⟩ => i 1
  | ⟨1, _⟩ => i 2

/-- An element of a slot as an element of a row of statistics, which is an array of one slot. -/
def inRow (x : S64x66.Idx) : S1x64x66.Idx := fun a =>
  match a with
  | ⟨0, _⟩ => (0 : Fin 1)
  | ⟨1, _⟩ => x 0
  | ⟨2, _⟩ => x 1

theorem slotIx_inSlot (i : S8x64x66.Idx) : slotIx (i 0) (inSlot i) = i := by
  funext a; fin_cases a <;> rfl

/-- Where the transfer's view of slot `e` puts its element `x`. -/
theorem slot_emb (e : Fin 8) (x : S64x66.Idx) : ((slotM e).view.emb x : S8x64x66.Idx) = slotIx e x := by
  have h : (slotM e).view.emb x = (slotR e).emb (Shape.reshapeEquiv squeezes_S1x64x66_S64x66.numel_eq x) := rfl
  rw [h, Shape.reshapeEquiv_cons_one]
  funext a
  refine Fin.ext ?_
  rw [ValueKit.rect_emb_unit_val]
  fin_cases a
  · exact Nat.add_zero _
  · exact Nat.zero_add _
  · exact Nat.zero_add _

/-- Where the rectangle of slot `e` puts its element `x`. -/
theorem slotR_emb (e : Fin 8) (x : S64x66.Idx) : ((slotR e).emb (inRow x) : S8x64x66.Idx) = slotIx e x := by
  funext a
  refine Fin.ext ?_
  rw [ValueKit.rect_emb_unit_val]
  fin_cases a
  · exact Nat.add_zero _
  · exact Nat.zero_add _
  · exact Nat.zero_add _

/-- The slot's elements are those whose first coordinate is the slot's number. -/
theorem mem_slot (e : Fin 8) (i : S8x64x66.Idx) : i ∈ ((slotM e).view.set : Finset S8x64x66.Idx) ↔ i 0 = e := by
  unfold View.set
  rw [Finset.mem_map]
  constructor
  · rintro ⟨x, -, hx⟩
    have hx' : slotIx e x = i := (slot_emb e x).symm.trans hx
    rw [← hx']; rfl
  · intro h
    exact ⟨inSlot i, Finset.mem_univ _, (slot_emb e (inSlot i)).trans (h ▸ slotIx_inSlot i)⟩

theorem slots_disjoint (e e' : Fin 8) (h : e ≠ e') :
    Disjoint ((slotM e).view.set : Finset S8x64x66.Idx) ((slotM e').view.set : Finset S8x64x66.Idx) :=
  Finset.disjoint_left.mpr fun i hi hi' => h (((mem_slot e i).mp hi).symm.trans ((mem_slot e' i).mp hi'))

theorem slots_cover : (Finset.univ : Finset (Fin 8)).biUnion (fun e => (show Finset S8x64x66.Idx from (slotM e).view.set)) = Finset.univ :=
  Finset.eq_univ_of_forall fun i => Finset.mem_biUnion.mpr ⟨i 0, Finset.mem_univ _, (mem_slot _ i).mpr rfl⟩

/-- The rectangle a load or store of one slot goes through is the slot. -/
theorem access_slot (e : Fin 8) : ((allM.access (slotR e)).set : Finset S8x64x66.Idx) = (slotM e).view.set :=
  (View.set_reshape _ _).symm

/-! ## The contents -/

section Contents

variable (row : Dev nD → S1x64x66.Idx → Elt F .f32)

/-- The gathered array of device `c`, when device `d`'s row of statistics is `row d`. -/
def gathered (c : Dev nD) : S8x64x66.Idx → Elt F .f32 :=
  fun i => row (peer c (-(i 0 : Fin 8))) (inRow (inSlot i))

theorem gathered_slot (c : Dev nD) (e : Fin 8) (x : S64x66.Idx) :
    gathered row c (slotIx e x) = row (peer c (-e)) (inRow x) := by
  unfold gathered
  congr 1

/-- A transfer from slot `0` of device `c` into slot `e` of the device `e` places on leaves there what `gathered` says. -/
theorem landed (c : Dev nD) (e : Fin 8) (fd : S8x64x66.Idx → Elt F .f32) (i : S8x64x66.Idx) (hi : i ∈ ((slotM e).view.set : Finset S8x64x66.Idx)) :
    (slotM e).view.write (Elt F) fd ((slotM 0).view.read (Elt F) (gathered row c)) Finset.univ i = gathered row (peer c e) i := by
  obtain ⟨x, -, hx⟩ := Finset.mem_map.mp hi
  have hx' : slotIx e x = i := (slot_emb e x).symm.trans hx
  rw [← hx, View.write_emb]
  simp only [Finset.mem_univ, if_true]
  show gathered row c ((slotM 0).view.emb x) = gathered row (peer c e) ((slotM e).view.emb x)
  rw [slot_emb, slot_emb, gathered_slot, gathered_slot, peer_back, peer_zero]

/-- The store of device `c`'s row into slot `0` leaves there what `gathered` says. -/
theorem stored (c : Dev nD) (fd : S8x64x66.Idx → Elt F .f32) (i : S8x64x66.Idx) (hi : i ∈ ((slotM 0).view.set : Finset S8x64x66.Idx)) :
    ((allM.access (slotR 0) : View sig .tc _ _ _).write (Elt F) fd (row c) Finset.univ : S8x64x66.Idx → Elt F .f32) i = gathered row c i := by
  have h0 : i 0 = (0 : Fin 8) := (mem_slot 0 i).mp hi
  have hx : ((slotR 0).emb (inRow (inSlot i)) : S8x64x66.Idx) = i := (slotR_emb 0 _).trans (h0 ▸ slotIx_inSlot i)
  have hw := View.write_emb (Val := Elt F) (v := (allM.access (slotR 0) : View sig .tc _ _ _)) fd (row c) Finset.univ (inRow (inSlot i))
  have hi' : ((allM.access (slotR 0) : View sig .tc _ _ _).emb (inRow (inSlot i)) : S8x64x66.Idx) = i := hx
  rw [hi'] at hw
  rw [hw]
  simp only [Finset.mem_univ, if_true]
  have hp : peer c (-(i 0 : Fin 8)) = c := by rw [show (i 0 : Fin 8) = (0 : Fin 8) from h0]; exact peer_zero c
  show row c _ = row (peer c (-(i 0 : Fin 8))) _
  rw [hp]

end Contents

end Cert.GatherStats

end
-- ==== Proof.Schedule.lean ====
/-
The gather of the softmax statistics, 2: who pays which semaphore when, and what comes with the payment.

A device's barrier semaphore is paid seven units, one by each other device; the device `e` places on pays the duty named
`e` and with it hands over ITS slot `e`, which is the one this device's transfer over distance `e` lands in. The send
semaphore of distance `e` is paid when that transfer has read its source, and gives back the share of slot `0` that was
lent to it; the receive semaphore of distance `e` is paid when the transfer from `e` places before has landed, and gives
slot `e` with the sender's row in it. The semaphores of distance `0` are never used.
-/
module

public import proofs.«01_k».proof.Proof.Slots
public import Idealize.ShloMosaic.Lib.Transfers

@[expose] public section

noncomputable section

namespace Cert.GatherStats

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F] [Named F]

/-! ## The resource algebra: the pipeline's copy and the gather's, whose duties are named by distances -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What a semaphore is for -/

/-- The use of a semaphore in the gather. -/
inductive Role where
  | bar
  | snd (e : Fin 8)
  | rcv (e : Fin 8)
  | other
deriving DecidableEq

/-- Of the transfer semaphores, `6 … 13` are the send ones and `14 … 21` the receive ones. -/
def dmaRole (n : ℕ) : Role :=
  if h : 6 ≤ n ∧ n < 14 then .snd ⟨n - 6, by omega⟩
  else if h : 14 ≤ n ∧ n < 22 then .rcv ⟨n - 14, by omega⟩
  else .other

def role (sm : SemLoc sig) : Role := match sm with
  | .reg s => if s = barS then .bar else .other
  | .dma s => dmaRole s.val

theorem role_bar : role (.reg barS) = .bar := by decide
theorem role_snd (e : Fin 8) : role (.dma (sndS e)) = .snd e := by
  show dmaRole (sndS e).val = _
  rw [sndS_val]; revert e; decide
theorem role_rcv (e : Fin 8) : role (.dma (rcvS e)) = .rcv e := by
  show dmaRole (rcvS e).val = _
  rw [rcvS_val]; revert e; decide

/-- The distances at which something happens: all but `0`; those still ahead after `k - 1` steps. -/
abbrev ahead (k : ℕ) : Finset (Fin 8) := Finset.univ.filter fun e => k ≤ e.val
abbrev away : Finset (Fin 8) := ahead 1

theorem mem_away {e : Fin 8} : e ∈ away ↔ e ≠ 0 := by revert e; decide
theorem ahead_step (k : ℕ) (hk : k < 8) : ahead k = insert (⟨k, hk⟩ : Fin 8) (ahead (k + 1)) := by
  ext e
  simp only [Finset.mem_filter, Finset.mem_univ, true_and, Finset.mem_insert, Fin.ext_iff]
  omega
theorem not_ahead (k : ℕ) (hk : k < 8) : (⟨k, hk⟩ : Fin 8) ∉ ahead (k + 1) := by
  simp only [Finset.mem_filter, Finset.mem_univ, true_and]; omega
theorem ahead_none : ahead 8 = ∅ := by decide

/-! ## The pieces of the gathered array -/

/-- Slot `e` of device `c`, at share `q`, with contents `f`. -/
def slotPts (c : Dev nD) (e : Fin 8) (q : PosShare TreeShare) (f : S8x64x66.Idx → Elt F .f32) : sProp 𝕄 :=
  (slotM e).view.loc (c : Thread nD τ) ↦[(slotM e).view.set]{q} f

/-- Slot `e` of device `c`, whatever it holds. -/
def slotAny (c : Dev nD) (e : Fin 8) : sProp 𝕄 := iprop(∃ f, slotPts (F := F) c e fullShare f)

instance slotPts_storable (c : Dev nD) (e : Fin 8) (q) (f) : BI.Storable (upEmb : UEmb _ 𝕄) (slotPts (F := F) c e q f) := by
  unfold slotPts; infer_instance
instance slotAny_storable (c : Dev nD) (e : Fin 8) : BI.Storable (upEmb : UEmb _ 𝕄) (slotAny (F := F) c e) := by
  unfold slotAny; infer_instance

/-- Only what a slot's contents are on the slot matters. -/
theorem slotPts_congr (c : Dev nD) (e : Fin 8) (q : PosShare TreeShare) {f g : S8x64x66.Idx → Elt F .f32}
    (h : ∀ i : S8x64x66.Idx, i ∈ ((slotM e).view.set : Finset S8x64x66.Idx) → f i = g i) :
    (slotPts c e q f : sProp 𝕄) = slotPts c e q g := by
  unfold slotPts
  exact pointsTo_congr h

section Sched

variable (row : Dev nD → S1x64x66.Idx → Elt F .f32)

/-- The share of slot `0` lent to the transfer over distance `e`; -/
def lent (c : Dev nD) (e : Fin 8) : sProp 𝕄 := slotPts c 0 (shareTok fullShare 8 e) (gathered row c)
/-- slot `e` with what the gather puts there. -/
def slotFull (c : Dev nD) (e : Fin 8) : sProp 𝕄 := slotPts c e fullShare (gathered row c)

instance lent_storable (c : Dev nD) (e : Fin 8) : BI.Storable (upEmb : UEmb _ 𝕄) (lent (F := F) row c e) := by
  unfold lent; infer_instance
instance slotFull_storable (c : Dev nD) (e : Fin 8) : BI.Storable (upEmb : UEmb _ 𝕄) (slotFull (F := F) row c e) := by
  unfold slotFull; infer_instance

/-! ## The schedule -/

/-- What the duty `d` of a semaphore of device `c` in this role brings. -/
def paid (c : Dev nD) : Role → Fin 8 → sProp 𝕄
  | .bar, d => slotAny (peer c d) d
  | .snd e, _ => lent row c e
  | .rcv e, _ => slotFull row c e
  | .other, _ => iprop(emp)

instance paid_storable (c : Dev nD) (k : Role) (d : Fin 8) : BI.Storable (upEmb : UEmb _ 𝕄) (paid (F := F) row c k d) := by
  cases k <;> (unfold paid; infer_instance)

/-- The duties of a semaphore in this role. -/
def dutiesOf : Role → Finset (Fin 8)
  | .bar => away
  | .snd e => if e = 0 then ∅ else {0}
  | .rcv e => if e = 0 then ∅ else {0}
  | .other => ∅

/-- The units each duty brings. -/
def unitsOf : Role → ℕ
  | .bar => 1
  | _ => N

/-- One round of payments. -/
def ringRd : Rounds.Schedule (GSem nD τ sig) (Fin 8) 𝕄 where
  duties g r := if r = 0 ∧ g.1.2 = .tc then dutiesOf (role g.2) else ∅
  unitless _ := False
  amount g _ _ := unitsOf (role g.2)
  payload g _ d := paid row g.1.1 (role g.2) d
  amount_pos g _ _ _ := by
    cases role g.2
    · exact Nat.one_pos
    · exact N_pos
    · exact N_pos
    · exact N_pos

instance ringRd_payload_storable (g : GSem nD τ sig) (r : ℕ) (d : Fin 8) :
    BI.Storable (upEmb : UEmb _ 𝕄) ((ringRd (F := F) row).payload g r d) := paid_storable row g.1.1 (role g.2) d

variable (c : Dev nD)

theorem duties_at (sm : SemLoc sig) : (ringRd (F := F) row).duties ((c : Thread nD τ), sm) 0 = dutiesOf (role sm) := by
  dsimp only [ringRd]; exact if_pos ⟨rfl, rfl⟩
theorem duties_later (g : GSem nD τ sig) : ∀ r, 1 ≤ r → (ringRd (F := F) row).duties g r = ∅ :=
  fun r hr => if_neg fun h => by omega
theorem duties_bar : (ringRd (F := F) row).duties (barCell c) 0 = away := by rw [duties_at, role_bar]; rfl
theorem duties_snd (e : Fin 8) (he : e ≠ 0) : (ringRd (F := F) row).duties (sndCell c e) 0 = {0} := by
  rw [duties_at, role_snd]; exact if_neg he
theorem duties_rcv (e : Fin 8) (he : e ≠ 0) : (ringRd (F := F) row).duties (rcvCell c e) 0 = {0} := by
  rw [duties_at, role_rcv]; exact if_neg he
theorem duties_snd_none : ∀ r, 0 ≤ r → (ringRd (F := F) row).duties (sndCell c 0) r = ∅ := fun r _ => by
  rcases Nat.eq_zero_or_pos r with rfl | h
  · rw [duties_at, role_snd]; rfl
  · exact duties_later row _ r h
theorem duties_rcv_none : ∀ r, 0 ≤ r → (ringRd (F := F) row).duties (rcvCell c 0) r = ∅ := fun r _ => by
  rcases Nat.eq_zero_or_pos r with rfl | h
  · rw [duties_at, role_rcv]; rfl
  · exact duties_later row _ r h

theorem amount_bar (d : Fin 8) : (ringRd (F := F) row).amount (barCell c) 0 d = 1 := by
  show unitsOf (role (.reg barS)) = 1; rw [role_bar]; rfl
theorem amount_snd (e d : Fin 8) : (ringRd (F := F) row).amount (sndCell c e) 0 d = N := by
  show unitsOf (role (.dma (sndS e))) = N; rw [role_snd]; rfl
theorem amount_rcv (e d : Fin 8) : (ringRd (F := F) row).amount (rcvCell c e) 0 d = N := by
  show unitsOf (role (.dma (rcvS e))) = N; rw [role_rcv]; rfl

theorem expect_bar : (ringRd (F := F) row).expect (barCell c) 0 = 7 := by
  unfold Schedule.expect Schedule.amountOf
  rw [duties_bar, Finset.sum_congr rfl fun d _ => amount_bar row c d, Finset.sum_const, smul_eq_mul, Nat.mul_one]
  decide
theorem expect_snd (e : Fin 8) (he : e ≠ 0) : (ringRd (F := F) row).expect (sndCell c e) 0 = N := by
  unfold Schedule.expect Schedule.amountOf; rw [duties_snd row c e he, Finset.sum_singleton, amount_snd]
theorem expect_rcv (e : Fin 8) (he : e ≠ 0) : (ringRd (F := F) row).expect (rcvCell c e) 0 = N := by
  unfold Schedule.expect Schedule.amountOf; rw [duties_rcv row c e he, Finset.sum_singleton, amount_rcv]

theorem payload_bar (d : Fin 8) : (ringRd (F := F) row).payload (barCell c) 0 d = slotAny (peer c d) d := by
  show paid row c (role (.reg barS)) d = _; rw [role_bar]; rfl
theorem payload_snd (e d : Fin 8) : (ringRd (F := F) row).payload (sndCell c e) 0 d = lent row c e := by
  show paid row c (role (.dma (sndS e))) d = _; rw [role_snd]; rfl
theorem payload_rcv (e d : Fin 8) : (ringRd (F := F) row).payload (rcvCell c e) 0 d = slotFull row c e := by
  show paid row c (role (.dma (rcvS e))) d = _; rw [role_rcv]; rfl

/-- All that comes with a finished round of the barrier: the slot `e` of the device `e` places on, for every distance. -/
theorem rest_bar : bigSep ((ringRd (F := F) row).duties (barCell c) 0 \ ∅) (fun d => (ringRd (F := F) row).payload (barCell c) 0 d)
    = bigSep away fun e => slotAny (peer c e) e := by
  rw [Finset.sdiff_empty, duties_bar]
  exact bigSep_congr fun d _ => payload_bar row c d
theorem rest_snd (e : Fin 8) (he : e ≠ 0) : bigSep ((ringRd (F := F) row).duties (sndCell c e) 0 \ ∅) (fun d => (ringRd (F := F) row).payload (sndCell c e) 0 d)
    = lent row c e := by
  rw [Finset.sdiff_empty, duties_snd row c e he, bigSep_singleton, payload_snd]
theorem rest_rcv (e : Fin 8) (he : e ≠ 0) : bigSep ((ringRd (F := F) row).duties (rcvCell c e) 0 \ ∅) (fun d => (ringRd (F := F) row).payload (rcvCell c e) 0 d)
    = slotFull row c e := by
  rw [Finset.sdiff_empty, duties_rcv row c e he, bigSep_singleton, payload_rcv]

end Sched

/-! ## What a device owes at launch; the levels -/

/-- The transfers still to be made from distance `k` on; -/
def rcvOwed (c : Dev nD) (k : ℕ) : CellTallies nD τ sig Unit := ∑ e ∈ ahead k, tallyAt (rcvCell (peer c e) e) () N
/-- the barrier signals still to be given. -/
def barOwed (c : Dev nD) (k : ℕ) : CellTallies nD τ sig Unit := ∑ e ∈ ahead k, tallyAt (barCell (peer c e)) () 1
/-- At launch a device owes every other device a row and a unit of its barrier. -/
def O₀ (c : Dev nD) : CellTallies nD τ sig Unit := rcvOwed c 1 + barOwed c 1

theorem rcvOwed_step (c : Dev nD) (k : ℕ) (hk : k < 8) :
    rcvOwed c k = rcvOwed c (k + 1) + tallyAt (rcvCell (peer c ⟨k, hk⟩) ⟨k, hk⟩) () N := by
  unfold rcvOwed; rw [ahead_step k hk, Finset.sum_insert (not_ahead k hk), add_comm]
theorem barOwed_step (c : Dev nD) (k : ℕ) (hk : k < 8) :
    barOwed c k = barOwed c (k + 1) + tallyAt (barCell (peer c ⟨k, hk⟩)) () 1 := by
  unfold barOwed; rw [ahead_step k hk, Finset.sum_insert (not_ahead k hk), add_comm]
theorem rcvOwed_done (c : Dev nD) : rcvOwed c 8 = 0 := by unfold rcvOwed; rw [ahead_none, Finset.sum_empty]
theorem barOwed_done (c : Dev nD) : barOwed c 8 = 0 := by unfold barOwed; rw [ahead_none, Finset.sum_empty]

theorem rcvOwed_apply (c : Dev nD) (k : ℕ) (g : GSem nD τ sig) (u : Unit) :
    rcvOwed c k g u = ∑ e ∈ ahead k, if g = rcvCell (peer c e) e then N else 0 := by
  unfold rcvOwed
  rw [Finset.sum_apply, Finsupp.finset_sum_apply]
  refine Finset.sum_congr rfl fun e _ => ?_
  rw [tallyAt_apply]; simp only [and_true]
theorem barOwed_apply (c : Dev nD) (k : ℕ) (g : GSem nD τ sig) (u : Unit) :
    barOwed c k g u = ∑ e ∈ ahead k, if g = barCell (peer c e) then 1 else 0 := by
  unfold barOwed
  rw [Finset.sum_apply, Finsupp.finset_sum_apply]
  refine Finset.sum_congr rfl fun e _ => ?_
  rw [tallyAt_apply]; simp only [and_true]

theorem rcvOwed_pos {c : Dev nD} {k : ℕ} {g : GSem nD τ sig} {u : Unit} (h : 0 < rcvOwed c k g u) : ∃ e, g = rcvCell (peer c e) e := by
  rw [rcvOwed_apply] at h
  by_contra hn
  rw [Finset.sum_eq_zero fun e _ => if_neg fun hg => hn ⟨e, hg⟩] at h
  exact Nat.lt_irrefl 0 h
theorem barOwed_pos {c : Dev nD} {k : ℕ} {g : GSem nD τ sig} {u : Unit} (h : 0 < barOwed c k g u) : ∃ e, g = barCell (peer c e) := by
  rw [barOwed_apply] at h
  by_contra hn
  rw [Finset.sum_eq_zero fun e _ => if_neg fun hg => hn ⟨e, hg⟩] at h
  exact Nat.lt_irrefl 0 h
theorem O₀_pos {c : Dev nD} {g : GSem nD τ sig} {u : Unit} (h : 0 < O₀ c g u) :
    (∃ e, g = rcvCell (peer c e) e) ∨ ∃ e, g = barCell (peer c e) := by
  unfold O₀ at h
  rw [Pi.add_apply, Finsupp.add_apply] at h
  rcases Nat.eq_zero_or_pos (rcvOwed c 1 g u) with h0 | h0
  · rw [h0, Nat.zero_add] at h; exact Or.inr (barOwed_pos h)
  · exact Or.inl (rcvOwed_pos h0)

def L (g : GSem nD τ sig) : Finset Unit := if g.1.2 = .tc then {()} else ∅
/-- The barrier at 1, the receive semaphores at 2, everything else at 0. -/
def level : Role → ℕ
  | .bar => 1
  | .rcv _ => 2
  | _ => 0
def lv (g : GSem nD τ sig) (_ : Unit) : ℕ := level (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (e : Fin 8) (u : Unit) : lv (rcvCell c e) u = 2 := by show level (role _) = 2; rw [role_rcv]; rfl
theorem lv_bar (c : Dev nD) (u : Unit) : lv (barCell c) u = 1 := by show level (role _) = 1; rw [role_bar]; rfl

/-- While it owes what it owes at launch, or nothing, a device may wait for its blocks. -/
theorem mayWait_stage (c : Dev nD) (q : DmaSem sig) (hq : level (role (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨e, rfl⟩ <;> exact Finset.mem_singleton_self _)
      (fun p hp => by rw [Finset.mem_singleton.mp hp]; exact hq.le)
      (fun g u hg => by
        rcases O₀_pos hg with ⟨e, rfl⟩ | ⟨e, rfl⟩
        · rw [lv_rcv]; decide
        · rw [lv_bar]; decide)
  · rw [MayWait_zero]; iintro -; iempintro

/-- Waiting on its barrier a device owes rows only, and receive semaphores lie above the barrier. -/
theorem mayWait_bar (c : Dev nD) : (levAts L lv : sProp 𝕄) ⊢ MayWait (c : Thread nD τ) (.reg barS) () (rcvOwed c 1) :=
  MayOwe.of_cut (L := L) (lev := lv) 1 (fun p hp => by rw [Finset.mem_singleton.mp hp, L_tc]; exact Finset.mem_singleton_self _)
    (fun g u hg => by obtain ⟨e, rfl⟩ := rcvOwed_pos hg; exact Finset.mem_singleton_self _)
    (fun p hp => by rw [Finset.mem_singleton.mp hp]; exact (lv_bar c ()).le)
    (fun g u hg => by obtain ⟨e, rfl⟩ := rcvOwed_pos hg; rw [lv_rcv]; decide)

/-! ## The cells, and what everybody knows of them -/

/-- Which semaphore of a device: the barrier, or the send (`false`) or receive (`true`) one of a distance. -/
abbrev CellIx : Type := Unit ⊕ (Bool × Fin 8)
/-- The semaphores the kernel brings along. -/
abbrev osem : Bool × Fin 8 → SemLoc sig := fun be => if be.1 then .dma (rcvS be.2) else .dma (sndS be.2)
abbrev csem : CellIx → SemLoc sig
  | .inl _ => .reg barS
  | .inr be => osem be
abbrev kcell (ck : Dev nD × CellIx) : GSem nD τ sig := ((ck.1 : Thread nD τ), csem ck.2)

section Records

variable (row : Dev nD → S1x64x66.Idx → Elt F .f32) (K : Dev nD × CellIx → ℕ)

/-- The invariants of all cells, and that all are at their first round. -/
def records : sProp 𝕄 :=
  iprop((bigSep Finset.univ fun ck : Dev nD × CellIx => cellInv ER (ringRd row) (K ck) (kcell ck))
    ∗ bigSep Finset.univ fun ck : Dev nD × CellIx => reached ER (kcell ck) 0)

instance records_persistent : BI.Persistent (records (F := F) row K) := by unfold records; infer_instance

theorem invs_elim (ck : Dev nD × CellIx) :
    (bigSep Finset.univ fun ck : Dev nD × CellIx => (cellInv ER (ringRd row) (K ck) (kcell ck) : sProp 𝕄)) ⊢ cellInv ER (ringRd row) (K ck) (kcell ck) :=
  bigSep_elim (Finset.mem_univ ck)
theorem reacheds_elim (ck : Dev nD × CellIx) :
    (bigSep Finset.univ fun ck : Dev nD × CellIx => (reached ER (kcell ck) 0 : sProp 𝕄)) ⊢ reached ER (kcell ck) 0 :=
  bigSep_elim (Finset.mem_univ ck)

theorem inv_at (ck : Dev nD × CellIx) : (records row K : sProp 𝕄) ⊢ cellInv ER (ringRd row) (K ck) (kcell ck) := by
  unfold records
  iintro ⟨#HI, -⟩
  iapply (invs_elim row K ck); iexact HI
theorem reached_at (ck : Dev nD × CellIx) : (records row K : sProp 𝕄) ⊢ reached ER (kcell ck) 0 := by
  unfold records
  iintro ⟨-, #HR⟩
  iapply (reacheds_elim ck); iexact HR

end Records

end Cert.GatherStats

end
-- ==== Proof.Steps.lean ====
/-
The gather of the softmax statistics, 3: the rounds of the kernel, one lemma for each kind of step.

The kernel signals seven barriers, makes seven transfers, waits for seven landings and for seven departures; each lemma here
is one such step at an arbitrary distance, and takes the state before it to the state after it.
-/
module

public import proofs.«01_k».proof.Proof.Schedule

@[expose] public section

noncomputable section

namespace Cert.GatherStats

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

/-! ## Things done in the order of the distances -/

/-- Of each distance what is done once it has been dealt with, what is still to do otherwise. -/
def upTo (k : ℕ) (todo done : Fin 8 → sProp 𝕄) : Fin 8 → sProp 𝕄 := fun e => if e.val < k then done e else todo e

/-- Everything but distance `k`. -/
def others (k : ℕ) (hk : k < 8) (todo done : Fin 8 → sProp 𝕄) : sProp 𝕄 := bigSep (away.erase ⟨k, hk⟩) (upTo k todo done)

theorem mem_away_of (k : ℕ) (h1 : 1 ≤ k) (hk : k < 8) : (⟨k, hk⟩ : Fin 8) ∈ away := by
  simp only [Finset.mem_filter, Finset.mem_univ, true_and]; exact h1

theorem upTo_before (k : ℕ) (h1 : 1 ≤ k) (hk : k < 8) (todo done : Fin 8 → sProp 𝕄) :
    bigSep away (upTo k todo done) = iprop(todo ⟨k, hk⟩ ∗ others k hk todo done) := by
  rw [bigSep_erase (mem_away_of k h1 hk)]
  unfold others
  rw [show upTo k todo done ⟨k, hk⟩ = todo ⟨k, hk⟩ from if_neg (Nat.lt_irrefl k)]
  rfl

theorem upTo_after (k : ℕ) (h1 : 1 ≤ k) (hk : k < 8) (todo done : Fin 8 → sProp 𝕄) :
    bigSep away (upTo (k + 1) todo done) = iprop(done ⟨k, hk⟩ ∗ others k hk todo done) := by
  rw [bigSep_erase (mem_away_of k h1 hk)]
  unfold others
  rw [show upTo (k + 1) todo done ⟨k, hk⟩ = done ⟨k, hk⟩ from if_pos (Nat.lt_succ_self k)]
  have h : bigSep (away.erase ⟨k, hk⟩) (upTo (k + 1) todo done) = bigSep (away.erase ⟨k, hk⟩) (upTo k todo done) :=
    bigSep_congr fun e he => by
      have hne : e.val ≠ k := fun h => (Finset.mem_erase.mp he).1 (Fin.ext h)
      unfold upTo
      by_cases hlt : e.val < k
      · rw [if_pos hlt, if_pos (Nat.lt_succ_of_lt hlt)]
      · rw [if_neg hlt, if_neg (by omega)]
  rw [h]
  rfl

theorem upTo_first (todo done : Fin 8 → sProp 𝕄) : bigSep away (upTo 1 todo done) = bigSep away todo :=
  bigSep_congr fun e he => if_neg (Nat.not_lt.mpr (Finset.mem_filter.mp he).2)
theorem upTo_last (todo done : Fin 8 → sProp 𝕄) : bigSep away (upTo 8 todo done) = bigSep away done :=
  bigSep_congr fun e he => if_pos e.isLt

section Steps

variable (row : Dev nD → S1x64x66.Idx → Elt F .f32) (K : Dev nD × CellIx → ℕ) (c : Dev nD)

/-! ## The barrier -/

/-- Before a signal: the token of the duty it pays, and the slot it hands over. -/
def toSignal (e : Fin 8) : sProp 𝕄 := iprop(dutyTok ER (barCell (peer c e)) 0 (-e) ∗ slotAny c (-e))
def Signalled (k : ℕ) : sProp 𝕄 :=
  iprop((∃ W, owes (c : Thread nD τ) (rcvOwed c 1 + barOwed c k) W) ∗ bigSep away (upTo k (toSignal (F := F) c) fun _ => iprop(emp)))

theorem neg_mem_away {e : Fin 8} (h : e ∈ away) : -e ∈ away := by revert e; decide

/-- The signal over distance `k`. -/
theorem step_signal (n : Dev nD) (k : ℕ) (h1 : 1 ≤ k) (hk : k < 8) (hn : n = peer c ⟨k, hk⟩)
    {α : Type} {Q : α → sProp 𝕄} {p : PUnit → Prog (TpuEff nD τ sig (Elt F) Λ₀ .tc) α} :
    iprop(records row K ∗ Signalled (F := F) c k)
      ⊢ iprop((Signalled (F := F) c (k + 1) -∗ wp frame (wpE (defs₀ (F := F)) 𝒱₀ (c : Thread nD τ) none) Set.univ (p ⟨⟩) Q)
          -∗ wp frame (wpE (defs₀ (F := F)) 𝒱₀ (c : Thread nD τ) none) Set.univ
              (.op (.semSignal ((n, .tc) : Thread nD τ) barS (1#32 : BitVec 32).toInt) p) Q) := by
  subst hn
  unfold Signalled
  rw [upTo_before k h1 hk, upTo_after k h1 hk]
  unfold toSignal
  have hO : rcvOwed c 1 + barOwed c k = rcvOwed c 1 + barOwed c (k + 1) + tallyAt (barCell (peer c ⟨k, hk⟩)) () (1#32 : BitVec 32).toNat := by
    rw [barOwed_step c k hk, add_assoc]; rfl
  iintro ⟨#HR, ⟨%W, HO⟩, ⟨Ht, Hs⟩, Hrest⟩ Hk
  iapply (Rounds.wp_signal 𝒱₀ ER (ringRd row) (c : Thread nD τ) none (dst := (peer c ⟨k, hk⟩ : Thread nD τ)) (κ := K (peer c ⟨k, hk⟩, .inl ()))
      (d := -⟨k, hk⟩) (by rw [duties_bar]; exact neg_mem_away (mem_away_of k h1 hk))
      ((amount_bar row (peer c ⟨k, hk⟩) _).trans (by decide)) () (rcvOwed c 1 + barOwed c (k + 1)) hO) $$ [HO Ht Hs]
  · isplitr; · iapply (inv_at row K (peer c ⟨k, hk⟩, .inl ())); iexact HR
    isplitl [HO]; · iexact HO
    isplitl [Ht]; · iexact Ht
    isplitl [Hs]; · rw [payload_bar, peer_back]; iexact Hs
    iapply (reached_at row K (peer c ⟨k, hk⟩, .inl ())); iexact HR
  iintro HO
  iapply Hk
  isplitl [HO]; · iexists W; iexact HO
  isplitr; · iempintro
  iexact Hrest

/-- The wait for the seven signals: with them come the slots the transfers land in. -/
theorem step_barrier {α : Type} {Q : α → sProp 𝕄} {p : PUnit → Prog (TpuEff nD τ sig (Elt F) Λ₀ .tc) α} :
    iprop(records row K ∗ levAts L lv ∗ cred (tallyAt (barCell c) () 7) ∗ atPos ER (barCell c) 0 ∅ 0 ∗ Signalled (F := F) c 8)
      ⊢ iprop((((∃ W, owes (c : Thread nD τ) (rcvOwed c 1) W) ∗ semVal (barCell c) 0 ∗ bigSep away fun e => slotAny (F := F) (peer c e) e)
            -∗ wp frame (wpE (defs₀ (F := F)) 𝒱₀ (c : Thread nD τ) none) Set.univ (p ⟨⟩) Q)
          -∗ wp frame (wpE (defs₀ (F := F)) 𝒱₀ (c : Thread nD τ) none) Set.univ
              (.op (.semWait barS (7#32 : BitVec 32).toInt) p) Q) := by
  unfold Signalled
  rw [upTo_last, barOwed_done, add_zero]
  iintro ⟨#HR, #Hlev, Hc, Hat, ⟨%W, HO⟩, -⟩ Hk
  iapply (Rounds.wp_wait_rest_token 𝒱₀ ER (ringRd row) (c : Thread nD τ) none (κ := K (c, .inl ()))
      (wpE_semWait_eq 𝒱₀ (c : Thread nD τ) none Set.univ) (Set.mem_univ _) () (O := rcvOwed c 1) (W := W) (R := 0) (m := 0) (T := ∅)
      (by rw [expect_bar]; decide)) $$ [Hc HO Hat]
  · isplitr; · iapply (inv_at row K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar row c)) $$ Hpay
  imod (Rounds.cell_close ER (ringRd row) (Set.mem_univ (K (c, .inl ()))) (fun h => h) (R := 0 + 1) (duties_later row (barCell c))) $$ [Hat] with Hz
  · isplitr; · iapply (inv_at row K (c, .inl ())); iexact HR
    iexact Hat
  iapply Hk
  isplitl [HO]; · iexists _; iexact HO
  isplitl [Hz]; · iexact Hz
  iexact Hp

/-! ## The transfers -/

/-- Before a transfer: the slot it lands in, both tokens and its share of the source; after it, the claim on its departure. -/
def toSend (e : Fin 8) : sProp 𝕄 :=
  iprop(slotAny (peer c e) e ∗ dutyTok ER (sndCell c e) 0 0 ∗ dutyTok ER (rcvCell (peer c e) e) 0 0 ∗ lent row c e)
def sent (e : Fin 8) : sProp 𝕄 := cred (tallyAt (sndCell c e) () N)
def Sent (k : ℕ) : sProp 𝕄 :=
  iprop((∃ W, owes (c : Thread nD τ) (rcvOwed c k) W) ∗ bigSep away (upTo k (toSend row c) (sent (F := F) c)))

/-- The transfer over distance `k`. -/
theorem step_send (n : Dev nD) (k : ℕ) (h1 : 1 ≤ k) (hk : k < 8) (hn : n = peer c ⟨k, hk⟩)
    {hsc : (slotM ⟨k, hk⟩ : Memref sig (Dev.tc n : Thread nD τ).2.kind .vmem S64x66 .f32).view.ref.isScScratch = false}
    {hsrc : (slotM 0).view.WordExact} {hdst : (slotM ⟨k, hk⟩).view.WordExact}
    {hsem : DmaTarget.Typed .vmem (.dma (rcvS ⟨k, hk⟩)) (.remote (Dev.tc n : Thread nD τ) (slotM ⟨k, hk⟩) (.dma (sndS ⟨k, hk⟩)) hsc)}
    {α : Type} {Q : α → sProp 𝕄} {p : PUnit → Prog (TpuEff nD τ sig (Elt F) Λ₀ .tc) α} :
    iprop(records row K ∗ Sent row c k)
      ⊢ iprop((Sent row c (k + 1) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (slotM 0) (.remote (Dev.tc n : Thread nD τ) (slotM ⟨k, hk⟩) (.dma (sndS ⟨k, hk⟩)) hsc) (.dma (rcvS ⟨k, hk⟩)) hsrc hdst hsem) p) Q) := by
  subst hn
  have hne : (⟨k, hk⟩ : Fin 8) ≠ 0 := mem_away.mp (mem_away_of k h1 hk)
  unfold Sent
  rw [upTo_before k h1 hk, upTo_after k h1 hk]
  unfold toSend slotAny
  have hp1 : ((slotM 0).view.loc (c : Thread nD τ) ↦[(slotM 0).view.set]{shareTok fullShare 8 ⟨k, hk⟩} gathered row c : sProp 𝕄)
      ⊢ (ringRd (F := F) row).payload (sndCell c ⟨k, hk⟩) 0 0 := by
    rw [payload_snd]; unfold lent slotPts; exact BI.Entails.refl _
  have hp2 (fd : S8x64x66.Idx → Elt F .f32) : (slotPts (peer c ⟨k, hk⟩) ⟨k, hk⟩ fullShare
        ((slotM ⟨k, hk⟩).view.write (Elt F) fd ((slotM 0).view.read (Elt F) (gathered row c)) Finset.univ) : sProp 𝕄)
      ⊢ (ringRd (F := F) row).payload (rcvCell (peer c ⟨k, hk⟩) ⟨k, hk⟩) 0 0 := by
    rw [payload_rcv]
    unfold slotFull
    rw [slotPts_congr (peer c ⟨k, hk⟩) ⟨k, hk⟩ fullShare (landed row c ⟨k, hk⟩ fd)]
  iintro ⟨#HR, ⟨%W, HO⟩, ⟨⟨%fd, Hd⟩, Ht1, Ht2, Hl⟩, Hrest⟩ Hk
  iapply (Rounds.wp_send_pointsTo 𝒱₀ ER (ringRd row) (c : Thread nD τ) none (κ₁ := K (c, .inr (false, ⟨k, hk⟩))) (κ₂ := K (peer c ⟨k, hk⟩, .inr (true, ⟨k, hk⟩)))
      (c' := (peer c ⟨k, hk⟩ : Thread nD τ)) (src := slotM 0) (dst := slotM ⟨k, hk⟩) (sS := .dma (sndS ⟨k, hk⟩)) (sem := .dma (rcvS ⟨k, hk⟩))
      (hsc := hsc) (hsrc := hsrc) (hdst := hdst) (hsem := hsem) (r₁ := 0) (r₂ := 0) (d₁ := 0) (d₂ := 0) (fs := gathered row c) (fd := fd) (q := shareTok fullShare 8 ⟨k, hk⟩)
      (by rw [duties_snd row c _ hne]; exact Finset.mem_singleton_self _) (by rw [duties_rcv row _ _ hne]; exact Finset.mem_singleton_self _)
      () () N (slot_credit ⟨k, hk⟩) (amount_snd row c _ 0) (amount_rcv row _ _ 0) (rcvOwed c (k + 1)) (rcvOwed_step c k hk) (W := W)
      hp1 (by unfold slotPts at hp2; exact hp2 fd)) $$ [Hd HO Ht1 Ht2 Hl]
  · isplitr; · iapply (inv_at row K (c, .inr (false, ⟨k, hk⟩))); iexact HR
    isplitr; · iapply (inv_at row K (peer c ⟨k, hk⟩, .inr (true, ⟨k, hk⟩))); iexact HR
    isplitl [Hl]; · unfold lent slotPts; iexact Hl
    isplitl [Hd]; · unfold slotPts; iexact Hd
    isplitl [HO]; · iexact HO
    isplitl [Ht1]; · iexact Ht1
    isplitr; · iapply (reached_at row K (c, .inr (false, ⟨k, hk⟩))); iexact HR
    isplitl [Ht2]; · iexact Ht2
    iapply (reached_at row K (peer c ⟨k, hk⟩, .inr (true, ⟨k, hk⟩))); iexact HR
  iintro ⟨Hc, HO⟩
  iapply Hk
  isplitl [HO]; · iexists W; iexact HO
  isplitl [Hc]; · unfold sent; iexact Hc
  iexact Hrest

/-! ## The waits -/

/-- Before the wait for a landing; after it. -/
def toLand (e : Fin 8) : sProp 𝕄 := iprop(cred (tallyAt (rcvCell c e) () N) ∗ atPos ER (rcvCell c e) 0 ∅ 0)
def arrived (e : Fin 8) : sProp 𝕄 := iprop(slotFull row c e ∗ semVal (rcvCell c e) 0)
def Landed (k : ℕ) : sProp 𝕄 :=
  iprop((∃ W, owes (c : Thread nD τ) 0 W) ∗ bigSep away (upTo k (toLand (F := F) c) (arrived row c)))

/-- The wait for the row from distance `k`. -/
theorem step_land (k : ℕ) (h1 : 1 ≤ k) (hk : k < 8) (a b : Fin 8) {hs hd}
    {α : Type} {Q : α → sProp 𝕄} {p : PUnit → Prog (TpuEff nD τ sig (Elt F) Λ₀ .tc) α} :
    iprop(records row K ∗ Landed row c k)
      ⊢ iprop((Landed row c (k + 1) -∗ wp frame (wpE (defs₀ (F := F)) 𝒱₀ (c : Thread nD τ) none) Set.univ (p ⟨⟩) Q)
          -∗ wp frame (wpE (defs₀ (F := F)) 𝒱₀ (c : Thread nD τ) none) Set.univ
              (.op (TpuEff.waitDma2 (p := .tc) (rcvS ⟨k, hk⟩) (slotM a) (slotM b) hs hd) p) Q) := by
  have hne : (⟨k, hk⟩ : Fin 8) ≠ 0 := mem_away.mp (mem_away_of k h1 hk)
  unfold Landed
  rw [upTo_before k h1 hk, upTo_after k h1 hk]
  unfold toLand arrived
  iintro ⟨#HR, ⟨%W, HO⟩, ⟨Hc, Hat⟩, Hrest⟩ Hk
  iapply (Rounds.wp_wait_rest_token 𝒱₀ ER (ringRd row) (c : Thread nD τ) none (κ := K (c, .inr (true, ⟨k, hk⟩)))
      (wpE_waitDma2_eq 𝒱₀ (c : Thread nD τ) none Set.univ) (Set.mem_univ _) () (O := 0) (W := W) (R := 0) (m := 0) (T := ∅)
      (by rw [Nat.zero_add, expect_rcv row c _ hne])) $$ [Hc HO Hat]
  · isplitr; · iapply (inv_at row K (c, .inr (true, ⟨k, hk⟩))); iexact HR
    isplitl [Hc]; · iexact Hc
    isplitl [HO]; · iexact HO
    isplitr; · rw [MayWait_zero]; iempintro
    iexact Hat
  iintro ⟨HO, Hat, -, Hpay⟩
  ihave Hp := (Entails.of_eq (rest_rcv row c ⟨k, hk⟩ hne)) $$ Hpay
  imod (Rounds.cell_close ER (ringRd row) (Set.mem_univ (K (c, .inr (true, ⟨k, hk⟩)))) (fun h => h) (R := 0 + 1) (duties_later row (rcvCell c ⟨k, hk⟩))) $$ [Hat] with Hz
  · isplitr; · iapply (inv_at row K (c, .inr (true, ⟨k, hk⟩))); iexact HR
    iexact Hat
  iapply Hk
  isplitl [HO]; · iexists _; iexact HO
  isplitl [Hp Hz]
  · isplitl [Hp] <;> iassumption
  iexact Hrest

/-- Before the wait for a departure; after it. -/
def toDepart (e : Fin 8) : sProp 𝕄 := iprop(sent (F := F) c e ∗ atPos ER (sndCell c e) 0 ∅ 0)
def returned (e : Fin 8) : sProp 𝕄 := iprop(lent row c e ∗ semVal (sndCell c e) 0)
def Departed (k : ℕ) : sProp 𝕄 :=
  iprop((∃ W, owes (c : Thread nD τ) 0 W) ∗ bigSep away (upTo k (toDepart (F := F) c) (returned row c)))

/-- The wait until the transfer over distance `k` has read its source. -/
theorem step_depart (k : ℕ) (h1 : 1 ≤ k) (hk : k < 8) (a b : Fin 8) {hs hd}
    {α : Type} {Q : α → sProp 𝕄} {p : PUnit → Prog (TpuEff nD τ sig (Elt F) Λ₀ .tc) α} :
    iprop(records row K ∗ Departed row c k)
      ⊢ iprop((Departed row c (k + 1) -∗ wp frame (wpE (defs₀ (F := F)) 𝒱₀ (c : Thread nD τ) none) Set.univ (p ⟨⟩) Q)
          -∗ wp frame (wpE (defs₀ (F := F)) 𝒱₀ (c : Thread nD τ) none) Set.univ
              (.op (TpuEff.waitDma2 (p := .tc) (sndS ⟨k, hk⟩) (slotM a) (slotM b) hs hd) p) Q) := by
  have hne : (⟨k, hk⟩ : Fin 8) ≠ 0 := mem_away.mp (mem_away_of k h1 hk)
  unfold Departed
  rw [upTo_before k h1 hk, upTo_after k h1 hk]
  unfold toDepart returned sent
  iintro ⟨#HR, ⟨%W, HO⟩, ⟨Hc, Hat⟩, Hrest⟩ Hk
  iapply (Rounds.wp_wait_rest_token 𝒱₀ ER (ringRd row) (c : Thread nD τ) none (κ := K (c, .inr (false, ⟨k, hk⟩)))
      (wpE_waitDma2_eq 𝒱₀ (c : Thread nD τ) none Set.univ) (Set.mem_univ _) () (O := 0) (W := W) (R := 0) (m := 0) (T := ∅)
      (by rw [Nat.zero_add, expect_snd row c _ hne])) $$ [Hc HO Hat]
  · isplitr; · iapply (inv_at row K (c, .inr (false, ⟨k, hk⟩))); iexact HR
    isplitl [Hc]; · iexact Hc
    isplitl [HO]; · iexact HO
    isplitr; · rw [MayWait_zero]; iempintro
    iexact Hat
  iintro ⟨HO, Hat, -, Hpay⟩
  ihave Hp := (Entails.of_eq (rest_snd row c ⟨k, hk⟩ hne)) $$ Hpay
  imod (Rounds.cell_close ER (ringRd row) (Set.mem_univ (K (c, .inr (false, ⟨k, hk⟩)))) (fun h => h) (R := 0 + 1) (duties_later row (sndCell c ⟨k, hk⟩))) $$ [Hat] with Hz
  · isplitr; · iapply (inv_at row K (c, .inr (false, ⟨k, hk⟩))); iexact HR
    iexact Hat
  iapply Hk
  isplitl [HO]; · iexists _; iexact HO
  isplitl [Hp Hz]
  · isplitl [Hp] <;> iassumption
  iexact Hrest

end Steps

end Cert.GatherStats

end
-- ==== Proof.Pieces.lean ====
/-
The gather of the softmax statistics, 4: taking the gathered array apart and putting it together.

Before the kernel reads the whole array, slot `0` is still lent to seven transfers that may be reading it. So the whole
array is held at the part of a share that was never lent, read at that, and put together when the shares are back.
-/
module

public import proofs.«01_k».proof.Proof.Steps

@[expose] public section

noncomputable section

namespace Cert.GatherStats

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F] [Named F]

local notation "𝕄" => MT nD τ sig Unit (Elt F) ℕ UU ℕ

/-- Distance `0` and the others. -/
theorem bigSep_zero_away (Φ : Fin 8 → sProp 𝕄) : bigSep Finset.univ Φ = iprop(Φ 0 ∗ bigSep away Φ) := by
  rw [bigSep_erase (Finset.mem_univ (0 : Fin 8)), show (Finset.univ : Finset (Fin 8)).erase 0 = away from by decide]
  rfl

/-- Counting the distances the other way round. -/
def flip : Fin 8 ≃ Fin 8 := ⟨fun e => -e, fun e => -e, fun e => by revert e; decide, fun e => by revert e; decide⟩

/-- The other distances, counted the other way round. -/
theorem bigSep_away_neg (Φ : Fin 8 → sProp 𝕄) : bigSep away (fun e => Φ (-e)) = bigSep away Φ := by
  have h := bigSep_map (M := 𝕄) (s := away) flip.toEmbedding (Φ := Φ)
  rw [show away.map flip.toEmbedding = away from by decide] at h
  exact h.symm

/-- The part of a share never lent. -/
abbrev kept : PosShare TreeShare := shareDrop fullShare 8

section Array

variable (c : Dev nD)

/-- The whole array is its eight slots. -/
theorem whole_slots (q : PosShare TreeShare) (f : S8x64x66.Idx → Elt F .f32) :
    (((c : Thread nD τ).loc cc0_scratch0) ↦{q} f : sProp 𝕄) = bigSep Finset.univ fun e => slotPts c e q f :=
  Ring.pointsTo_blocks (ℓ := (c : Thread nD τ).loc cc0_scratch0) (fun e : Fin 8 => (show Finset S8x64x66.Idx from (slotM e).view.set))
    (fun e e' h => slots_disjoint e e' h) slots_cover f

/-- The shares of slot `e` that can be lent. -/
def lendable (e : Fin 8) (f : S8x64x66.Idx → Elt F .f32) : sProp 𝕄 :=
  bigSep Finset.univ fun i : Fin 8 => slotPts c e (shareTok fullShare 8 i) f

theorem slot_split (e : Fin 8) (f : S8x64x66.Idx → Elt F .f32) :
    (slotPts c e fullShare f : sProp 𝕄) ⊢ iprop(slotPts c e kept f ∗ lendable c e f) := by
  unfold slotPts lendable slotPts; exact pointsTo_toks_split fullShare 8
theorem slot_join (e : Fin 8) (f : S8x64x66.Idx → Elt F .f32) :
    (iprop(slotPts c e kept f ∗ lendable c e f) : sProp 𝕄) ⊢ slotPts c e fullShare f := by
  unfold slotPts lendable slotPts; exact pointsTo_toks_join fullShare 8

variable (row : Dev nD → S1x64x66.Idx → Elt F .f32)

/-- Slot `0`, ready for the transfers: what is kept, the unused share, and a share for each transfer. -/
theorem lend : (slotFull row c 0 : sProp 𝕄) ⊢ iprop((slotPts c 0 kept (gathered row c) ∗ lent row c 0) ∗ bigSep away (lent row c)) := by
  unfold slotFull
  refine (slot_split c 0 _).trans ?_
  have h : (lendable c 0 (gathered row c) : sProp 𝕄) = iprop(lent row c 0 ∗ bigSep away (lent row c)) := by
    unfold lendable; exact bigSep_zero_away _
  rw [h]
  iintro ⟨H1, H2, H3⟩
  isplitl [H1 H2]
  · isplitl [H1] <;> iassumption
  iexact H3

/-- All rows in: the whole array at the share kept, and what is lendable of the other slots. -/
theorem gather_kept : iprop(slotPts c 0 kept (gathered row c) ∗ bigSep away (slotFull row c))
    ⊢ (iprop((((c : Thread nD τ).loc cc0_scratch0) ↦{kept} gathered row c) ∗ bigSep away fun e => lendable c e (gathered row c)) : sProp 𝕄) := by
  rw [whole_slots, bigSep_zero_away]
  have h : (bigSep away (slotFull row c) : sProp 𝕄)
      ⊢ iprop((bigSep away fun e => slotPts c e kept (gathered row c)) ∗ bigSep away fun e => lendable c e (gathered row c)) := by
    rw [← bigSep_sep']
    exact bigSep_mono fun e _ => by unfold slotFull; exact slot_split c e _
  iintro ⟨H0, H⟩
  ihave H' := h $$ H
  icases H' with ⟨H1, H2⟩
  isplitl [H0 H1]
  · isplitl [H0] <;> iassumption
  iexact H2

/-- All shares back: the whole array. -/
theorem gather_full : iprop((((c : Thread nD τ).loc cc0_scratch0) ↦{kept} gathered row c) ∗ (bigSep away fun e => lendable c e (gathered row c))
      ∗ lent row c 0 ∗ bigSep away (lent row c))
    ⊢ (((c : Thread nD τ).loc cc0_scratch0) ↦{fullShare} gathered row c : sProp 𝕄) := by
  rw [whole_slots c kept, whole_slots c fullShare]
  have h : (iprop((bigSep Finset.univ fun e => slotPts c e kept (gathered row c)) ∗ bigSep Finset.univ fun e => lendable c e (gathered row c)) : sProp 𝕄)
      ⊢ bigSep Finset.univ fun e => slotPts c e fullShare (gathered row c) := by
    rw [← bigSep_sep']
    exact bigSep_mono fun e _ => slot_join c e _
  have h0 : (lendable c 0 (gathered row c) : sProp 𝕄) = iprop(lent row c 0 ∗ bigSep away (lent row c)) := by
    unfold lendable; exact bigSep_zero_away _
  have h1 : (iprop((bigSep Finset.univ fun e => slotPts c e kept (gathered row c)) ∗ (bigSep away fun e => lendable c e (gathered row c))
        ∗ lent row c 0 ∗ bigSep away (lent row c)) : sProp 𝕄)
      ⊢ iprop((bigSep Finset.univ fun e => slotPts c e kept (gathered row c)) ∗ bigSep Finset.univ fun e => lendable c e (gathered row c)) := by
    rw [bigSep_zero_away (fun e => (lendable c e (gathered row c) : sProp 𝕄)), h0]
    iintro ⟨H1, H2, H3, H4⟩
    isplitl [H1]; · iexact H1
    isplitl [H3 H4]
    · isplitl [H3] <;> iassumption
    iexact H2
  exact h1.trans h

/-- The array at launch: slot `0` at some contents, and every other slot ready to be handed over. -/
theorem whole_any (f : S8x64x66.Idx → Elt F .f32) :
    (((c : Thread nD τ).loc cc0_scratch0) ↦{fullShare} f : sProp 𝕄) ⊢ iprop(slotPts c 0 fullShare f ∗ bigSep away fun e => slotAny c (-e)) := by
  rw [whole_slots, bigSep_zero_away, bigSep_away_neg (fun e => slotAny (F := F) c e)]
  refine sep_mono_right (bigSep_mono fun e _ => ?_)
  unfold slotAny
  exact exists_intro (Φ := fun g => (slotPts c e fullShare g : sProp 𝕄)) f

end Array

/-! ## Ghost state of a device -/

/-- The tokens of the duties device `c` pays. -/
def payToks (c : Dev nD) : sProp 𝕄 :=
  iprop((bigSep Finset.univ fun e : Fin 8 => dutyTok ER (barCell (peer c e)) 0 (-e))
    ∗ (bigSep Finset.univ fun e : Fin 8 => dutyTok ER (sndCell c e) 0 0)
    ∗ bigSep Finset.univ fun e : Fin 8 => dutyTok ER (rcvCell (peer c e) e) 0 0)

/-- Where device `c` stands at its own cells: at the beginning. -/
def places (c : Dev nD) : sProp 𝕄 :=
  iprop(atPos ER (barCell c) 0 ∅ 0 ∗ (bigSep Finset.univ fun e : Fin 8 => atPos ER (sndCell c e) 0 ∅ 0)
    ∗ bigSep Finset.univ fun e : Fin 8 => atPos ER (rcvCell c e) 0 ∅ 0)

/-- What the other devices' debts give device `c` to wait with. -/
def credits (c : Dev nD) : sProp 𝕄 :=
  iprop(cred (tallyAt (barCell c) () 7) ∗ bigSep away fun e => cred (tallyAt (rcvCell c e) () N))

theorem away_of_univ (Φ : Fin 8 → sProp 𝕄) : bigSep Finset.univ Φ ⊢ bigSep away Φ := by
  rw [bigSep_zero_away]; iintro ⟨-, H⟩; iexact H

section Ghost

variable (row : Dev nD → S1x64x66.Idx → Elt F .f32) (K : Dev nD × CellIx → ℕ) (c : Dev nD)

theorem signalled_intro (W : Waits sig Unit) :
    iprop(owes (c : Thread nD τ) (O₀ c) W ∗ (bigSep Finset.univ fun e : Fin 8 => dutyTok ER (barCell (peer c e)) 0 (-e)) ∗ bigSep away fun e => slotAny c (-e))
      ⊢ (Signalled c 1 : sProp 𝕄) := by
  unfold Signalled
  rw [upTo_first]
  unfold toSignal O₀
  rw [bigSep_sep']
  iintro ⟨HO, Ht, Hs⟩
  isplitl [HO]; · iexists W; iexact HO
  isplitl [Ht]; · iapply (away_of_univ fun e => (dutyTok ER (barCell (peer c e)) 0 (-e) : sProp 𝕄)); iexact Ht
  iexact Hs

theorem sent_intro :
    iprop((∃ W, owes (c : Thread nD τ) (rcvOwed c 1) W) ∗ (bigSep away fun e => slotAny (peer c e) e)
        ∗ (bigSep Finset.univ fun e : Fin 8 => dutyTok ER (sndCell c e) 0 0) ∗ (bigSep Finset.univ fun e : Fin 8 => dutyTok ER (rcvCell (peer c e) e) 0 0)
        ∗ bigSep away (lent row c))
      ⊢ (Sent row c 1 : sProp 𝕄) := by
  unfold Sent
  rw [upTo_first]
  unfold toSend
  rw [bigSep_sep', bigSep_sep', bigSep_sep']
  iintro ⟨HO, Hs, Ht1, Ht2, Hl⟩
  isplitl [HO]; · iexact HO
  isplitl [Hs]; · iexact Hs
  isplitl [Ht1]; · iapply (away_of_univ fun e => (dutyTok ER (sndCell c e) 0 0 : sProp 𝕄)); iexact Ht1
  isplitl [Ht2]; · iapply (away_of_univ fun e => (dutyTok ER (rcvCell (peer c e) e) 0 0 : sProp 𝕄)); iexact Ht2
  iexact Hl

theorem sent_done : (Sent row c 8 : sProp 𝕄) ⊢ iprop((∃ W, owes (c : Thread nD τ) 0 W) ∗ bigSep away (sent c)) := by
  unfold Sent; rw [upTo_last, rcvOwed_done]

theorem landed_intro :
    iprop((∃ W, owes (c : Thread nD τ) 0 W) ∗ (bigSep away fun e => cred (tallyAt (rcvCell c e) () N)) ∗ bigSep away fun e => atPos ER (rcvCell c e) 0 ∅ 0)
      ⊢ (Landed row c 1 : sProp 𝕄) := by
  unfold Landed
  rw [upTo_first]
  unfold toLand
  rw [bigSep_sep']

theorem landed_done : (Landed row c 8 : sProp 𝕄)
    ⊢ iprop((∃ W, owes (c : Thread nD τ) 0 W) ∗ bigSep away (slotFull row c) ∗ bigSep away fun e => semVal (rcvCell c e) 0) := by
  unfold Landed; rw [upTo_last]; unfold arrived; rw [bigSep_sep']

theorem departed_intro :
    iprop((∃ W, owes (c : Thread nD τ) 0 W) ∗ bigSep away (sent c) ∗ bigSep away fun e => atPos ER (sndCell c e) 0 ∅ 0)
      ⊢ (Departed row c 1 : sProp 𝕄) := by
  unfold Departed
  rw [upTo_first]
  unfold toDepart
  rw [bigSep_sep']

theorem departed_done : (Departed row c 8 : sProp 𝕄)
    ⊢ iprop((∃ W, owes (c : Thread nD τ) 0 W) ∗ bigSep away (lent row c) ∗ bigSep away fun e => semVal (sndCell c e) 0) := by
  unfold Departed; rw [upTo_last]; unfold returned; rw [bigSep_sep']

/-- The semaphores of distance `0` end as they began. -/
theorem close_unused : iprop(records row K ∗ atPos ER (sndCell c 0) 0 ∅ 0 ∗ atPos ER (rcvCell c 0) 0 ∅ 0)
    ⊢ (|={Set.univ}=> iprop(semVal (sndCell c 0) 0 ∗ semVal (rcvCell c 0) 0) : sProp 𝕄) := by
  iintro ⟨#HR, H1, H2⟩
  imod (Rounds.cell_close ER (ringRd row) (Set.mem_univ (K (c, .inr (false, 0)))) (fun h => h) (R := 0) (duties_snd_none row c)) $$ [H1] with Hz1
  · isplitr; · iapply (inv_at row K (c, .inr (false, 0))); iexact HR
    iexact H1
  imod (Rounds.cell_close ER (ringRd row) (Set.mem_univ (K (c, .inr (true, 0)))) (fun h => h) (R := 0) (duties_rcv_none row c)) $$ [H2] with Hz2
  · isplitr; · iapply (inv_at row K (c, .inr (true, 0))); iexact HR
    iexact H2
  imodintro
  isplitl [Hz1] <;> iassumption

end Ghost

end Cert.GatherStats

end
-- ==== Proof.Body.lean ====
/-
The gather of the softmax statistics, 5: one device's kernel.

Device `c` computes its row from its five blocks: the queries, its pages of the keys and of the values, the block table and
the lengths. It signals the others, stores its row in slot `0`, waits for their signals, sends the row to each of them, waits
for their rows, and computes its result from all eight.
-/
module

public import proofs.«01_k».proof.Proof.Pieces
public import proofs.«01_k».proof.Proof.Gen.KernelIdeal.Launch
public import proofs.«01_k».proof.Proof.Gen.KernelIdeal.Points

@[expose] public section

noncomputable section

namespace Cert.GatherStats

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Values -/

/-- A device's number along the mesh axis, as the kernel computes it. -/
def axisWord (c : Dev nD) : BitVec 32 := Scalar.remsi (Scalar.divsi (Dev.word c) 1#32) 8#32

/-- The number of heads, as the kernel's integer arithmetic carries it. -/
abbrev heads : BitVec 32 := Scalar.select (Scalar.cmpi .eq 8#32 0#32) 1#32 8#32

/-- The row a device computes: 64 accumulators, the maximum and the sum of weights, for each sequence and head. -/
def stats (w : BitVec 32) (q : Vec F S8x1x8x64 .f32) (k v : Vec F S64x16x8x64 .f32) (bt : Vec F S8x64 .i32) (lens : Vec F S8 .i32) :
    FVec F S1x64x66 .f32 :=
  k0_pay11 (k0_pay8 heads k0_pay5 k0_pay6 k0_pay7 0#32)
    (k0_pay9 (k0_pay3 (k0_pay2 w bt lens) (Scalar.ofBits .f32 0x00000000#32)) k0_pay4)
    (k0_pay10 (k0_pay1 q) k0_pay4 heads k0_pay5 k0_pay6 k0_pay7 0#32 k) v

variable (m : (ℓ : Loc nD τ sig) → Buf (Elt F) ℓ) (ρ : Dev nD → PrngReg)

abbrev s₀ : MemSt nD τ sig (Elt F) := ⟨m, fun _ => 0, ρ⟩

/-- The blocks of device `c`. -/
def qIn (c : Dev nD) : (cc0_stg0_0 : Ref sig .tc).ty.Contents (Elt F) :=
  (win0_0.blk (0 : Fin 1)).view.read (Elt F) (m ((c : Thread nD τ).loc main_arg0))
def kIn (c : Dev nD) : (cc0_stg1_0 : Ref sig .tc).ty.Contents (Elt F) :=
  (win0_1.blk (0 : Fin 1)).view.read (Elt F) (m ((c : Thread nD τ).loc main_arg1))
def vIn (c : Dev nD) : (cc0_stg2_0 : Ref sig .tc).ty.Contents (Elt F) :=
  (win0_2.blk (0 : Fin 1)).view.read (Elt F) (m ((c : Thread nD τ).loc main_arg2))
def btIn (c : Dev nD) : (cc0_stg3_0 : Ref sig .tc).ty.Contents (Elt F) :=
  (win0_3.blk (0 : Fin 1)).view.read (Elt F) (m ((c : Thread nD τ).loc main_arg3))
def lensIn (c : Dev nD) : (cc0_stg4_0 : Ref sig .tc).ty.Contents (Elt F) :=
  (win0_4.blk (0 : Fin 1)).view.read (Elt F) (m ((c : Thread nD τ).loc main_arg4))

/-- Device `c`'s row. -/
def row (c : Dev nD) : S1x64x66.Idx → Elt F .f32 :=
  stats (axisWord c) (qIn m c) (kIn m c) (vIn m c) (btIn m c) (lensIn m c)

/-- Device `c`'s result. -/
def outAt (c : Dev nD) : (cc0_stg5_0 : Ref sig .tc).ty.Contents (Elt F) := k0_pay12 (gathered (row m) c)

/-! ## The pipeline's proof data -/

def t₀ : Fin cfg0.N := t0_0

/-- What device `c`'s kernel starts from, besides its buffers. -/
def start (c : Dev nD) : sProp 𝕄 :=
  iprop((∃ K, records (row m) K) ∗ (places c ∗ payToks c) ∗ credits c ∗ levAts L lv)

def Φ₀ (c : Dev nD) : sProp 𝕄 := iprop(start m c ∗ ∃ f : S8x64x66.Idx → Elt F .f32, (((c : Thread nD τ).loc cc0_scratch0) ↦{fullShare} f))

/-- What it ends with: the gathered array, and every semaphore at zero. -/
def Φ₁ (c : Dev nD) : sProp 𝕄 :=
  iprop((((c : Thread nD τ).loc cc0_scratch0) ↦{fullShare} gathered (row m) c) ∗ (bigSep Finset.univ fun e : Fin 8 => semVal (sndCell c e) 0)
    ∗ (bigSep Finset.univ fun e : Fin 8 => semVal (rcvCell c e) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qIn m c
    | ⟨1, _⟩ => kIn m c
    | ⟨2, _⟩ => vIn m c
    | ⟨3, _⟩ => btIn m c
    | ⟨4, _⟩ => lensIn m c
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Reading and writing whole buffers -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The whole of the result's buffer. -/
abbrev outR : Rect S8x1x8x64 := Rect.unit (s := S8x1x8x64) ![0, 0, 0, 0] S8x1x8x64.size inb_S8x1x8x64_S8x1x8x64_0_0_0_0
theorem write_out (f w : (cc0_stg5_0 : Ref sig .tc).ty.Contents (Elt F)) :
    ((Memref.whole cc0_stg5_0 : Memref sig .tc .vmem S8x1x8x64 .f32).access outR : View sig .tc _ _ _).write (Elt F) f w Finset.univ = w :=
  Memref.write_access_unit_zero_univ (Elt F) cc0_stg5_0 zeros4 _ f w

/-- The store into slot `0`, as the kernel makes it. -/
theorem slot_stored (row : Dev nD → S1x64x66.Idx → Elt F .f32) (c : Dev nD) (fd : S8x64x66.Idx → Elt F .f32) :
    ((allM.access (slotR 0) : View sig .tc _ _ _).loc (c : Thread nD τ) ↦[(slotM 0).view.set]{fullShare}
      ((allM.access (slotR 0) : View sig .tc _ _ _).write (Elt F) fd (row c) Finset.univ) : sProp 𝕄) ⊢ slotFull row c 0 :=
  Entails.of_eq (slotPts_congr c 0 fullShare (stored row c fd))

/-! ## The kernel -/

section Kernel

variable (K : Dev nD × CellIx → ℕ)

def bodyPre (c : Dev nD) : sProp 𝕄 :=
  iprop((records (row m) K ∗ (places c ∗ payToks c) ∗ credits c ∗ levAts L lv
      ∗ ∃ f : S8x64x66.Idx → Elt F .f32, (((c : Thread nD τ).loc cc0_scratch0) ↦{fullShare} f))
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ m c ∗ (dats m ρ 0 c).owesAt () t₀.succ ∗ stg c cc0_stg0_0 (qIn m c) ∗ stg c cc0_stg1_0 (kIn m c)
    ∗ stg c cc0_stg2_0 (vIn m c) ∗ stg c cc0_stg3_0 (btIn m c) ∗ stg c cc0_stg4_0 (lensIn m c) ∗ stg c cc0_stg5_0 (outAt m c))

set_option maxHeartbeats 4000000 in
set_option maxRecDepth 8000 in
/-- The kernel, one rule for each effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) Kt := by
  simp only [cc0_body_eq_skeleton]; unfold cc0_body_skel
  simp only [k0_part16_eq_skeleton]; unfold k0_part16_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel
  simp only [semSignalWord, semWaitWord, Prog.lift, Prog.bind_op, Prog.bind_ret, Prog.pure_eq_ret, wp_deviceId]
  unfold bodyPre places payToks credits
  iintro ⟨⟨⟨#HR, ⟨⟨HatB, HatS, HatV⟩, HtB, HtS, HtV⟩, ⟨HcB, HcV⟩, #Hlev, ⟨%f0, Hscr⟩⟩,
    Ho, ⟨%d0, %g0, %hg0, Hq⟩, ⟨%d1, %g1, %hg1, Hkk⟩, ⟨%d2, %g2, %hg2, Hv⟩, ⟨%d3, %g3, %hg3, Hbt⟩, ⟨%d4, %g4, %hg4, Hln⟩, ⟨%d5, %g5, %hg5, Hout⟩⟩, Hk⟩
  have h0 : g0 = qIn m c := by rw [hg0]; unfold Dat.before; rw [if_pos (fetch0_0 t₀)]; rfl
  have h1 : g1 = kIn m c := by rw [hg1]; unfold Dat.before; rw [if_pos (fetch0_1 t₀)]; rfl
  have h2 : g2 = vIn m c := by rw [hg2]; unfold Dat.before; rw [if_pos (fetch0_2 t₀)]; rfl
  have h3 : g3 = btIn m c := by rw [hg3]; unfold Dat.before; rw [if_pos (fetch0_3 t₀)]; rfl
  have h4 : g4 = lensIn m c := by rw [hg4]; unfold Dat.before; rw [if_pos (fetch0_4 t₀)]; rfl
  subst h0 h1 h2 h3 h4
  unfold Dat.owesAt Pipeline.owesWithin
  icases Ho with ⟨%W, %hW, HO⟩
  rw [show (dats m ρ 0 c).owed t₀.castSucc = O₀ c from rfl]
  ihave Hsl := (whole_any c f0) $$ Hscr
  icases Hsl with ⟨Hs0, Hsl⟩
  -- the signals
  ihave HS := (signalled_intro c W) $$ [HO HtB Hsl]
  · isplitl [HO]; · iexact HO
    isplitl [HtB] <;> iassumption
  iapply (step_signal (row m) K c _ 1 (by decide) (by decide) (sig1_eq c)) $$ [HS]
  · isplitr; · iexact HR
    iexact HS
  iintro HS
  iapply (step_signal (row m) K c _ 2 (by decide) (by decide) (sig2_eq c)) $$ [HS]
  · isplitr; · iexact HR
    iexact HS
  iintro HS
  iapply (step_signal (row m) K c _ 3 (by decide) (by decide) (sig3_eq c)) $$ [HS]
  · isplitr; · iexact HR
    iexact HS
  iintro HS
  iapply (step_signal (row m) K c _ 4 (by decide) (by decide) (sig4_eq c)) $$ [HS]
  · isplitr; · iexact HR
    iexact HS
  iintro HS
  iapply (step_signal (row m) K c _ 5 (by decide) (by decide) (sig5_eq c)) $$ [HS]
  · isplitr; · iexact HR
    iexact HS
  iintro HS
  iapply (step_signal (row m) K c _ 6 (by decide) (by decide) (sig6_eq c)) $$ [HS]
  · isplitr; · iexact HR
    iexact HS
  iintro HS
  iapply (step_signal (row m) K c _ 7 (by decide) (by decide) (sig7_eq c)) $$ [HS]
  · isplitr; · iexact HR
    iexact HS
  iintro HS
  -- the blocks
  iapply (wp_load 𝒱₀ (c : Thread nD τ) none Set.univ (m := Memref.whole cc0_stg0_0) (Finset.subset_univ _)) $$ Hq; iintro Hq
  rw [show (Memref.whole cc0_stg0_0).view.readAt (Elt F) _ (qIn m c) = qIn m c from Memref.readAt_unit_zero (Elt F) cc0_stg0_0 zeros4 _ _]
  iapply (wp_load 𝒱₀ (c : Thread nD τ) none Set.univ (m := Memref.whole cc0_stg3_0) (Finset.subset_univ _)) $$ Hbt; iintro Hbt
  rw [show (Memref.whole cc0_stg3_0).view.readAt (Elt F) _ (btIn m c) = btIn m c from Memref.readAt_unit_zero (Elt F) cc0_stg3_0 zeros2 _ _]
  iapply (wp_load 𝒱₀ (c : Thread nD τ) none Set.univ (m := Memref.whole cc0_stg4_0) (Finset.subset_univ _)) $$ Hln; iintro Hln
  rw [show (Memref.whole cc0_stg4_0).view.readAt (Elt F) _ (lensIn m c) = lensIn m c from Memref.readAt_unit_zero (Elt F) cc0_stg4_0 zeros1 _ _]
  iapply (wp_load 𝒱₀ (c : Thread nD τ) none Set.univ (m := Memref.whole cc0_stg1_0) (Finset.subset_univ _)) $$ Hkk; iintro Hkk
  rw [show (Memref.whole cc0_stg1_0).view.readAt (Elt F) _ (kIn m c) = kIn m c from Memref.readAt_unit_zero (Elt F) cc0_stg1_0 zeros4 _ _]
  iapply (wp_load 𝒱₀ (c : Thread nD τ) none Set.univ (m := Memref.whole cc0_stg2_0) (Finset.subset_univ _)) $$ Hv; iintro Hv
  rw [show (Memref.whole cc0_stg2_0).view.readAt (Elt F) _ (vIn m c) = vIn m c from Memref.readAt_unit_zero (Elt F) cc0_stg2_0 zeros4 _ _]
  -- the row, into slot `0`
  unfold slotPts
  iapply (wp_load_rect 𝒱₀ (c : Thread nD τ) none Set.univ (m := allM) (r := slotR 0) ((access_slot 0).subset)) $$ Hs0; iintro Hs0
  iapply (wp_store 𝒱₀ (c : Thread nD τ) none Set.univ (m := allM) (r := slotR 0) (Mk := Finset.univ) (by rw [View.setOn_univ]; exact (access_slot 0).subset)) $$ Hs0; iintro Hs0
  rw [show k0_pay11 (k0_pay8 heads k0_pay5 k0_pay6 k0_pay7 0#32)
      (k0_pay9 (k0_pay3 (k0_pay2 (Scalar.remsi (Scalar.divsi (Dev.word c) 1#32) 8#32) (btIn m c) (lensIn m c)) (Scalar.ofBits .f32 0x00000000#32)) k0_pay4)
      (k0_pay10 (k0_pay1 (qIn m c)) k0_pay4 heads k0_pay5 k0_pay6 k0_pay7 0#32 (kIn m c)) (vIn m c) = row m c from rfl]
  ihave Hs0 := (slot_stored (row m) c f0) $$ Hs0
  -- the barrier
  iapply (step_barrier (row m) K c) $$ [HcB HatB HS]
  · isplitr; · iexact HR
    isplitr; · iexact Hlev
    isplitl [HcB]; · iexact HcB
    isplitl [HatB] <;> iassumption
  iintro ⟨HO, HzB, Hsl⟩
  -- the transfers
  ihave Hs0 := (lend c (row m)) $$ Hs0
  icases Hs0 with ⟨⟨Hkept, Hl0⟩, Hlent⟩
  ihave HS := (sent_intro (row m) c) $$ [HO Hsl HtS HtV Hlent]
  · isplitl [HO]; · iexact HO
    isplitl [Hsl]; · iexact Hsl
    isplitl [HtS]; · iexact HtS
    isplitl [HtV] <;> iassumption
  iapply (step_send (row m) K c _ 1 (by decide) (by decide) (snd1_eq c)) $$ [HS]
  · isplitr; · iexact HR
    iexact HS
  iintro HS
  iapply (step_send (row m) K c _ 2 (by decide) (by decide) (snd2_eq c)) $$ [HS]
  · isplitr; · iexact HR
    iexact HS
  iintro HS
  iapply (step_send (row m) K c _ 3 (by decide) (by decide) (snd3_eq c)) $$ [HS]
  · isplitr; · iexact HR
    iexact HS
  iintro HS
  iapply (step_send (row m) K c _ 4 (by decide) (by decide) (snd4_eq c)) $$ [HS]
  · isplitr; · iexact HR
    iexact HS
  iintro HS
  iapply (step_send (row m) K c _ 5 (by decide) (by decide) (snd5_eq c)) $$ [HS]
  · isplitr; · iexact HR
    iexact HS
  iintro HS
  iapply (step_send (row m) K c _ 6 (by decide) (by decide) (snd6_eq c)) $$ [HS]
  · isplitr; · iexact HR
    iexact HS
  iintro HS
  iapply (step_send (row m) K c _ 7 (by decide) (by decide) (snd7_eq c)) $$ [HS]
  · isplitr; · iexact HR
    iexact HS
  iintro HS
  ihave HS := (sent_done (row m) c) $$ HS
  icases HS with ⟨HO, Hsent⟩
  ihave HatV := (Entails.of_eq (bigSep_zero_away (fun e => (atPos ER (rcvCell c e) 0 ∅ 0 : sProp 𝕄)))) $$ HatV
  ihave HatS := (Entails.of_eq (bigSep_zero_away (fun e => (atPos ER (sndCell c e) 0 ∅ 0 : sProp 𝕄)))) $$ HatS
  icases HatV with ⟨HatV0, HatV⟩
  icases HatS with ⟨HatS0, HatS⟩
  -- the other rows
  ihave HS := (landed_intro (row m) c) $$ [HO HcV HatV]
  · isplitl [HO]; · iexact HO
    isplitl [HcV] <;> iassumption
  iapply (step_land (row m) K c 1 (by decide) (by decide) 0 1) $$ [HS]
  · isplitr; · iexact HR
    iexact HS
  iintro HS
  iapply (step_land (row m) K c 2 (by decide) (by decide) 0 2) $$ [HS]
  · isplitr; · iexact HR
    iexact HS
  iintro HS
  iapply (step_land (row m) K c 3 (by decide) (by decide) 0 3) $$ [HS]
  · isplitr; · iexact HR
    iexact HS
  iintro HS
  iapply (step_land (row m) K c 4 (by decide) (by decide) 0 4) $$ [HS]
  · isplitr; · iexact HR
    iexact HS
  iintro HS
  iapply (step_land (row m) K c 5 (by decide) (by decide) 0 5) $$ [HS]
  · isplitr; · iexact HR
    iexact HS
  iintro HS
  iapply (step_land (row m) K c 6 (by decide) (by decide) 0 6) $$ [HS]
  · isplitr; · iexact HR
    iexact HS
  iintro HS
  iapply (step_land (row m) K c 7 (by decide) (by decide) 0 7) $$ [HS]
  · isplitr; · iexact HR
    iexact HS
  iintro HS
  ihave HS := (landed_done (row m) c) $$ HS
  icases HS with ⟨HO, Hfull, HzV⟩
  ihave Hall := (gather_kept c (row m)) $$ [Hkept Hfull]
  · isplitl [Hkept] <;> iassumption
  icases Hall with ⟨Hall, Hlendable⟩
  iapply (wp_load 𝒱₀ (c : Thread nD τ) none Set.univ (m := allM) (Finset.subset_univ _)) $$ Hall; iintro Hall
  rw [show allM.view.readAt (Elt F) _ (gathered (row m) c) = gathered (row m) c from Memref.readAt_unit_zero (Elt F) cc0_scratch0 zeros3 _ _]
  -- the result
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := outR) (Mk := Finset.univ) (Finset.subset_univ _)) $$ Hout; iintro Hout
  rw [write_out]
  -- the departures
  ihave HS := (departed_intro (row m) c) $$ [HO Hsent HatS]
  · isplitl [HO]; · iexact HO
    isplitl [Hsent] <;> iassumption
  iapply (step_depart (row m) K c 1 (by decide) (by decide) 1 0) $$ [HS]
  · isplitr; · iexact HR
    iexact HS
  iintro HS
  iapply (step_depart (row m) K c 2 (by decide) (by decide) 2 0) $$ [HS]
  · isplitr; · iexact HR
    iexact HS
  iintro HS
  iapply (step_depart (row m) K c 3 (by decide) (by decide) 3 0) $$ [HS]
  · isplitr; · iexact HR
    iexact HS
  iintro HS
  iapply (step_depart (row m) K c 4 (by decide) (by decide) 4 0) $$ [HS]
  · isplitr; · iexact HR
    iexact HS
  iintro HS
  iapply (step_depart (row m) K c 5 (by decide) (by decide) 5 0) $$ [HS]
  · isplitr; · iexact HR
    iexact HS
  iintro HS
  iapply (step_depart (row m) K c 6 (by decide) (by decide) 6 0) $$ [HS]
  · isplitr; · iexact HR
    iexact HS
  iintro HS
  iapply (step_depart (row m) K c 7 (by decide) (by decide) 7 0) $$ [HS]
  · isplitr; · iexact HR
    iexact HS
  iintro HS
  ihave HS := (departed_done (row m) c) $$ HS
  icases HS with ⟨⟨%W', HO⟩, Hlent, HzS⟩
  ihave Hall := (gather_full c (row m)) $$ [Hall Hlendable Hl0 Hlent]
  · isplitl [Hall]; · iexact Hall
    isplitl [Hlendable]; · iexact Hlendable
    isplitl [Hl0] <;> iassumption
  imod (close_unused (row m) K c) $$ [HatS0 HatV0] with ⟨HzS0, HzV0⟩
  · isplitr; · iexact HR
    isplitl [HatS0] <;> iassumption
  rw [wp_ret]; imodintro
  iapply Hk
  unfold bodyPost Φ₁ Dat.owesAt Pipeline.owesWithin
  rw [show (dats m ρ 0 c).owed t₀.succ = 0 from rfl]
  isplitl [Hall HzS HzV HzB HzS0 HzV0]
  · isplitl [Hall]; · iexact Hall
    isplitl [HzS0 HzS]
    · iapply (Entails.of_eq (bigSep_zero_away (fun e => (semVal (sndCell c e) 0 : sProp 𝕄))).symm)
      isplitl [HzS0] <;> iassumption
    isplitl [HzV0 HzV]
    · iapply (Entails.of_eq (bigSep_zero_away (fun e => (semVal (rcvCell c e) 0 : sProp 𝕄))).symm)
      isplitl [HzV0] <;> iassumption
    iexact HzB
  isplitl [HO]
  · iexists W'
    isplitr; · ipureintro; exact fun _ _ => Or.inl trivial
    iexact HO
  isplitl [Hq]
  · iexists _; isplitr; · (ipureintro; rfl)
    iexact Hq
  isplitl [Hkk]
  · iexists _; isplitr; · (ipureintro; rfl)
    iexact Hkk
  isplitl [Hv]
  · iexists _; isplitr; · (ipureintro; rfl)
    iexact Hv
  isplitl [Hbt]
  · iexists _; isplitr; · (ipureintro; rfl)
    iexact Hbt
  isplitl [Hln]
  · iexists _; isplitr; · (ipureintro; rfl)
    iexact Hln
  iexists _; isplitr; · (ipureintro; rfl)
  iexact Hout

end Kernel

end Cert.GatherStats

end
-- ==== Proof.Run.lean ====
/-
The gather of the softmax statistics, 6: the launch, and the run.
-/
module

public import proofs.«01_k».proof.Proof.Body
public import Idealize.ShloMosaic.Lib.Pipeline.Launch
public import Idealize.ShloMosaic.Lib.Pipeline.CollectiveSegs
public import Idealize.ShloMosaic.Lib.Quiescent

@[expose] public section

noncomputable section

namespace Cert.GatherStats

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Families over the cells of a device -/

/-- A device's cells: the barrier's, the send semaphores', the receive semaphores'. -/
theorem bigSep_bool_fin (Φ : Bool × Fin 8 → sProp 𝕄) :
    bigSep Finset.univ Φ = iprop((bigSep Finset.univ fun e : Fin 8 => Φ (false, e)) ∗ bigSep Finset.univ fun e : Fin 8 => Φ (true, e)) := by
  rw [bigSep_univ_prod]
  exact bigSep_univ_eq_bigSepL [false, true] (by decide) (by decide) _
theorem bigSep_cells (Φ : CellIx → sProp 𝕄) :
    bigSep Finset.univ Φ = iprop(Φ (.inl ()) ∗ (bigSep Finset.univ fun e : Fin 8 => Φ (.inr (false, e))) ∗ bigSep Finset.univ fun e : Fin 8 => Φ (.inr (true, e))) := by
  rw [bigSep_univ_sum, bigSep_bool_fin]
  rw [show (bigSep Finset.univ fun u : Unit => Φ (.inl u)) = Φ (.inl ()) from bigSep_univ_eq_bigSepL [()] (by decide) (by decide) _]
  rfl

/-- Going `e` places on goes through all devices. -/
def peerEquiv (e : Fin 8) : Dev nD ≃ Dev nD where
  toFun c := peer c e
  invFun c := peer c (-e)
  left_inv c := peer_back c e
  right_inv c := peer_forth c e

/-- A family over devices and distances, each member moved to the device its distance leads to. -/
theorem bigSep_moved (Φ : Dev nD → Fin 8 → sProp 𝕄) :
    (bigSep Finset.univ fun c => bigSep Finset.univ fun e => Φ c e) = bigSep Finset.univ fun c => bigSep Finset.univ fun e => Φ (peer c e) e := by
  rw [bigSep_univ_comm, bigSep_univ_comm (fun c e => Φ (peer c e) e)]
  exact bigSep_congr fun e _ => (bigSep_univ_equiv (peerEquiv e) (fun c => Φ c e)).trans rfl

/-! ## The body, as the pipeline calls it -/

section Run

variable (m : (ℓ : Loc nD τ sig) → Buf (Elt F) ℓ) (ρ : Dev nD → PrngReg)

set_option maxRecDepth 4000 in
/-- What the pipeline calls the body with. -/
def bodyPre' (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 4000 in
/-- The pipeline's obligation on its body. -/
theorem body_obligation (c : Dev nD) : BodyObligation (dats (F := F) m ρ 0 c) (defs₀ (F := F)) 𝒱₀ () Set.univ := fun t => by
  rw [show t = t₀ from fin_N0 t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) cc0_scratch1 cc0_scratch2) (fun _ => bodyPost m ρ c)
  unfold bodyPre' Φ₀ start
  iintro ⟨⟨⟨⟨%K, #HR⟩, Hp, Hc, Hl⟩, Hscr⟩, Hwin⟩
  iapply (sound_body m ρ K c fun _ => bodyPost m ρ c)
  unfold bodyPre
  isplitr []
  · isplitr [Hwin]
    · isplitr; · iexact HR
      isplitl [Hp]; · iexact Hp
      isplitl [Hc]; · iexact Hc
      isplitl [Hl] <;> iassumption
    iexact Hwin
  · iintro H; iexact H

/-! ## The ghost state at launch -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  rintro (⟨⟩ | ⟨b, e⟩) (⟨⟩ | ⟨b', e'⟩) h
  · rfl
  · exfalso; cases b' <;> exact absurd h (by simp [csem, osem])
  · exfalso; cases b <;> exact absurd h (by simp [csem, osem])
  · cases b <;> cases b'
    · have he : e = e' := sndS_inj (SemLoc.dma.inj h)
      rw [he]
    · exact absurd (SemLoc.dma.inj h) (snd_ne_rcv _ _)
    · exact absurd (SemLoc.dma.inj h).symm (snd_ne_rcv _ _)
    · have he : e = e' := rcvS_inj (SemLoc.dma.inj h)
      rw [he]

theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All cells. -/
def gatherCells : Finset (GSem nD τ sig) := Finset.univ.map ⟨kcell, kcell_injective⟩

/-- The duties: seven of a barrier (an eighth, that nobody owes, makes the count even), one of every other semaphore. -/
abbrev dutyIx : Fin 8 ⊕ (Bool × Fin 8) → CellIx × Fin 8
  | .inl e => (.inl (), e)
  | .inr be => (.inr be, 0)
theorem dutyIx_injective : Function.Injective dutyIx := by decide
abbrev tokOf (cj : Dev nD × (Fin 8 ⊕ (Bool × Fin 8))) : GSem nD τ sig × ℕ × Fin 8 := (kcell (cj.1, (dutyIx cj.2).1), 0, (dutyIx cj.2).2)
theorem tokOf_injective : Function.Injective tokOf := by
  rintro ⟨c, j⟩ ⟨c', j'⟩ h
  have h1 := kcell_injective (congrArg (fun x : GSem nD τ sig × ℕ × Fin 8 => x.1) h)
  have h2 : (dutyIx j).2 = (dutyIx j').2 := congrArg (fun x : GSem nD τ sig × ℕ × Fin 8 => x.2.2) h
  have h3 : c = c' := congrArg Prod.fst h1
  have h4 : (dutyIx j).1 = (dutyIx j').1 := congrArg Prod.snd h1
  rw [h3, dutyIx_injective (Prod.ext h4 h2)]
def gatherToks : Finset (GSem nD τ sig × ℕ × Fin 8) := Finset.univ.map ⟨tokOf, tokOf_injective⟩

def u₀ : UU :=
  (initOf (Pipeline.cells cfgs cellOf_inj) (Pipeline.launchToks cfgs cellOf_inj), initOf gatherCells gatherToks)

/-- The tokens of the duties of device `c`'s own cells. -/
def toks (c : Dev nD) : sProp 𝕄 :=
  iprop((bigSep Finset.univ fun e : Fin 8 => dutyTok ER (barCell c) 0 e)
    ∗ (bigSep Finset.univ fun e : Fin 8 => dutyTok ER (sndCell c e) 0 0)
    ∗ bigSep Finset.univ fun e : Fin 8 => dutyTok ER (rcvCell c e) 0 0)

/-- What each device is dealt at launch. -/
def G (c : Dev nD) : sProp 𝕄 :=
  iprop((bigSep Finset.univ fun k : CellIx => roundState ER (ringRd (row m)) (kcell (c, k)) 0)
    ∗ (bigSep Finset.univ fun k : CellIx => iprop(atPos ER (kcell (c, k)) 0 ∅ 0 ∗ reached ER (kcell (c, k)) 0)) ∗ toks c)

/-- What becomes of it before the kernels start. -/
def G' (c : Dev nD) : sProp 𝕄 := iprop((∃ K, records (row m) K) ∗ places c ∗ payToks c)

theorem fund_gather : BI.own (ER (initOf gatherCells gatherToks)) ⊢ (|==> bigSep Finset.univ (G m) : sProp 𝕄) := by
  have hX (Φ : GSem nD τ sig → sProp 𝕄) : bigSep gatherCells Φ = bigSep Finset.univ fun c : Dev nD => bigSep Finset.univ fun k : CellIx => Φ (kcell (c, k)) := by
    unfold gatherCells; rw [bigSep_map, bigSep_univ_prod]; rfl
  have hT : bigSep gatherToks (fun x => (dutyTok ER x.1 x.2.1 x.2.2 : sProp 𝕄)) = bigSep Finset.univ fun c : Dev nD => toks c := by
    unfold gatherToks; rw [bigSep_map, bigSep_univ_prod]
    exact bigSep_congr fun c _ => by unfold toks; rw [bigSep_univ_sum, bigSep_bool_fin]; rfl
  iintro HX
  imod (Rounds.fund ER (ringRd (row m)) gatherCells gatherToks) $$ HX with ⟨Hst, Hr, Hat, Htok⟩
  imodintro
  ihave Hst' := (Entails.of_eq (hX fun g => roundState ER (ringRd (row m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The semaphores the kernel brings along; -/
theorem ownSems0_eq (c : Dev nD) : (Pipeline.ownSems0 (Ix := Unit) (Name := ℕ) (U := UU) (Lvl := ℕ) (Val := Elt F) (τ := τ) osem c : sProp 𝕄)
    = iprop((bigSep Finset.univ fun e : Fin 8 => semVal (sndCell c e) 0) ∗ bigSep Finset.univ fun e : Fin 8 => semVal (rcvCell c e) 0) := by
  show (bigSep Finset.univ fun k : Bool × Fin 8 => (semVal ((c : Thread nD τ), osem k) 0 : sProp 𝕄)) = _
  rw [bigSep_bool_fin]; rfl
/-- and the runtime's barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cells]
  show _ ⊢ (iprop(semVal (barCell c) 0 ∗ (bigSep Finset.univ fun e : Fin 8 => semVal (sndCell c e) 0) ∗ bigSep Finset.univ fun e : Fin 8 => semVal (rcvCell c e) 0) : sProp 𝕄)
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd (row m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (ringRd (row m)) (kcell (c, k)) 0)
      ⊢ (|={Set.univ}=> bigSep Finset.univ fun k => iprop(∃ κ : ℕ, cellInv ER (ringRd (row m)) κ (kcell (c, k))) : sProp 𝕄) from by
        rw [← bigSep_sep']
        exact (bigSep_mono fun k _ => (Rounds.body_intro ER (ringRd (row m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every token goes to the device that pays the duty. -/
theorem toks_moved : (bigSep Finset.univ fun c : Dev nD => (toks c : sProp 𝕄)) = bigSep Finset.univ fun c : Dev nD => payToks c := by
  unfold toks payToks
  rw [bigSep_sep', bigSep_sep', bigSep_sep', bigSep_sep']
  rw [bigSep_moved (fun c e => (dutyTok ER (rcvCell c e) 0 0 : sProp 𝕄))]
  rw [show (bigSep Finset.univ fun c : Dev nD => bigSep Finset.univ fun e : Fin 8 => (dutyTok ER (barCell c) 0 e : sProp 𝕄))
      = bigSep Finset.univ fun c : Dev nD => bigSep Finset.univ fun e : Fin 8 => dutyTok ER (barCell c) 0 (-e) from
    bigSep_congr fun c _ => bigSep_univ_equiv flip (fun e : Fin 8 => (dutyTok ER (barCell c) 0 e : sProp 𝕄))]
  rw [bigSep_moved (fun c e => (dutyTok ER (barCell c) 0 (-e) : sProp 𝕄))]

/-- A persistent fact beside every member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CellIx → ℕ) (c : Dev nD) : iprop(records (row m) K ∗ (places c ∗ payToks c)) ⊢ G' m c := by
  unfold G'
  iintro ⟨#HR, Hp, Ht⟩
  isplitr; · iexists K; iexact HR
  isplitl [Hp] <;> iassumption

theorem regroup :
    (bigSep Finset.univ fun c : Dev nD => iprop((bigSep Finset.univ fun k => iprop(∃ κ : ℕ, cellInv ER (ringRd (row m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CellIx => iprop(∃ κ : ℕ, cellInv ER (ringRd (row m)) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄)), toks_moved]
  iintro ⟨HI, ⟨Hat, #HR⟩, Htk⟩
  ihave HK := (BI.bigSep_exists_pi Finset.univ (fun (ck : Dev nD × CellIx) (κ : ℕ) => (cellInv ER (ringRd (row m)) κ (kcell ck) : sProp 𝕄))) $$ HI
  icases HK with ⟨%K, #HI⟩
  iapply (bigSep_beside (R := records (row m) K) fun c _ => ghost_intro m K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄)) payToks).symm).trans
      (bigSep_mono fun c _ => show _ ⊢ iprop(places c ∗ payToks c) from Entails.of_eq (by unfold places; rw [bigSep_cells]; rfl)))
    isplitl [Hat]; · iexact Hat
    iexact Htk

/-- All devices' semaphores at once, before the kernels start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices owe one another -/

theorem bar_eq_iff {a b : Dev nD} : Iff (barCell a = barCell b) (a = b) :=
  ⟨fun h => congrArg (fun g : GSem nD τ sig => g.1.1) h, fun h => h ▸ rfl⟩
theorem rcv_eq_iff {a b : Dev nD} {e e' : Fin 8} : Iff (rcvCell a e = rcvCell b e') (a = b ∧ e = e') :=
  ⟨fun h => ⟨congrArg (fun g : GSem nD τ sig => g.1.1) h, rcvS_inj (SemLoc.dma.inj (congrArg Prod.snd h))⟩, fun h => by rw [h.1, h.2]⟩
theorem bar_ne_rcv (a b : Dev nD) (e : Fin 8) : barCell a ≠ rcvCell b e := fun h => by
  have := congrArg Prod.snd h; cases this

/-- Over each distance one device owes device `c`'s barrier a unit. -/
theorem owed_bar (d c : Dev nD) : O₀ d (barCell c) () = ∑ e ∈ away, if d = peer c (-e) then 1 else 0 := by
  unfold O₀
  rw [Pi.add_apply, Finsupp.add_apply, rcvOwed_apply, barOwed_apply, Finset.sum_eq_zero fun e _ => if_neg (bar_ne_rcv c _ e), zero_add]
  refine Finset.sum_congr rfl fun e _ => ?_
  by_cases h : d = peer c (-e)
  · rw [if_pos h, if_pos (bar_eq_iff.mpr ((peer_eq_iff c d e).mpr h).symm)]
  · rw [if_neg h, if_neg fun hb => h ((peer_eq_iff c d e).mp (bar_eq_iff.mp hb).symm)]

/-- One device owes device `c` the row that comes over distance `e`. -/
theorem owed_rcv (d c : Dev nD) (e : Fin 8) (he : e ∈ away) : O₀ d (rcvCell c e) () = if d = peer c (-e) then N else 0 := by
  unfold O₀
  rw [Pi.add_apply, Finsupp.add_apply, rcvOwed_apply, barOwed_apply,
    Finset.sum_eq_zero (s := ahead 1) (f := fun e' => if rcvCell c e = barCell (peer d e') then 1 else 0) fun e' _ => if_neg (bar_ne_rcv _ c e).symm, add_zero,
    Finset.sum_eq_single_of_mem e he fun e' _ hne => if_neg fun h => hne (rcv_eq_iff.mp h).2.symm]
  by_cases h : d = peer c (-e)
  · rw [if_pos h, if_pos (rcv_eq_iff.mpr ⟨((peer_eq_iff c d e).mpr h).symm, rfl⟩)]
  · rw [if_neg h, if_neg fun hb => h ((peer_eq_iff c d e).mp (rcv_eq_iff.mp hb).1.symm)]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun e _ => (Finset.sum_ite_eq' Finset.univ (peer c (-e)) fun _ => 1).trans (if_pos (Finset.mem_univ _)), Finset.sum_const, smul_eq_mul, Nat.mul_one]
  decide

theorem launch_rcv (c : Dev nD) (e : Fin 8) (he : e ∈ away) :
    tallyOn (rcvCell c e) (launchCredit (Pipeline.owing O₀) 0 (rcvCell c e)) = (tallyAt (rcvCell c e) () N : CellTallies nD τ sig Unit) := by
  unfold tallyAt; refine congrArg _ (Finsupp.ext fun u => ?_); cases u
  rw [Pipeline.launchCredit_owing, Finsupp.single_eq_same, Finset.sum_congr rfl fun d _ => owed_rcv d c e he,
    Finset.sum_ite_eq' Finset.univ (peer c (-e)) fun _ => N, if_pos (Finset.mem_univ _)]

/-- The receive semaphores, among all semaphores. -/
def rcvEmb : Fin 8 ↪ SemLoc sig := ⟨fun e => .dma (rcvS e), fun _ _ h => rcvS_inj (SemLoc.dma.inj h)⟩

theorem creds (c : Dev nD) : (Pipeline.launchCred O₀ c : sProp 𝕄) ⊢ credits c := by
  unfold Pipeline.launchCred credits
  rw [bigSep_univ_at _ (SemLoc.reg barS), launch_bar]
  refine sep_mono_right ?_
  have hsub : away.map rcvEmb ⊆ Finset.univ.erase (SemLoc.reg barS) := fun s hs => by
    obtain ⟨e, -, rfl⟩ := Finset.mem_map.mp hs
    exact Finset.mem_erase.mpr ⟨fun h => (SemLoc.noConfusion rfl (heq_of_eq h) : False), Finset.mem_univ _⟩
  have hc : (bigSep (away.map rcvEmb) fun sm => (cred (tallyOn ((c : Thread nD τ), sm) (launchCredit (Pipeline.owing O₀) 0 ((c : Thread nD τ), sm))) : sProp 𝕄))
      = bigSep away fun e => cred (tallyAt (rcvCell c e) () N) := by
    rw [bigSep_map]
    exact bigSep_congr fun e he => congrArg cred (launch_rcv c e he)
  rw [← hc]
  exact bigSep_subset hsub

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  icases HG with ⟨HK, Hp⟩
  isplitl
  · isplitl [HK]; · iexact HK
    isplitl [Hp]; · iexact Hp
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexists (gathered (row m) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-- What an array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory, with the counters at zero, for any float values: every weakly fair execution of the program ends, with
    the arrays at the contents computed above and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_gather m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands hold what they held. -/
theorem finalA_q (c : Dev nD) : finalA m ρ c (0 : Fin 6) = m ((c : Thread nD τ).loc main_arg0) := (dats (F := F) m ρ 0 c).arrAt_in (0 : Fin 6) rfl _
theorem finalA_k (c : Dev nD) : finalA m ρ c (1 : Fin 6) = m ((c : Thread nD τ).loc main_arg1) := (dats (F := F) m ρ 0 c).arrAt_in (1 : Fin 6) rfl _
theorem finalA_v (c : Dev nD) : finalA m ρ c (2 : Fin 6) = m ((c : Thread nD τ).loc main_arg2) := (dats (F := F) m ρ 0 c).arrAt_in (2 : Fin 6) rfl _
theorem finalA_bt (c : Dev nD) : finalA m ρ c (3 : Fin 6) = m ((c : Thread nD τ).loc main_arg3) := (dats (F := F) m ρ 0 c).arrAt_in (3 : Fin 6) rfl _
theorem finalA_lens (c : Dev nD) : finalA m ρ c (4 : Fin 6) = m ((c : Thread nD τ).loc main_arg4) := (dats (F := F) m ρ 0 c).arrAt_in (4 : Fin 6) rfl _

end Run

end Cert.GatherStats

end
-- ==== Proof.Ref.lean ====
/- The run of the reference, a program of host operations on one device: what its result buffer holds at the end,
   as a function of the five arguments. -/
module

public import proofs.«01_k».proof.Defs
public import Idealize.ShloMosaic.Lib.StableHlo.Run
public import Idealize.ShloMosaic.Lib.Quiescent
public import proofs.«01_k».proof.Proof.Gen.ReferenceIdeal

@[expose] public section

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-- The cache's pages in the order in which a block table names them, their keys in one row. -/
def taken (x : FVec F S512x16x8x64 .f32) (bt : IVec S8x64 32) : FVec F S8x1024x8x64 .f32 :=
  shapeCast S8x1024x8x64
    (Host.gather gather_S512x16x8x64_S8x64x1_S8x64x16x8x64_234_0_n_n_0_2_116864 x
      (broadcastInDim S8x64x1 ![0, 1] bcast_S8x64_S8x64x1_0_1 bt)) shapeCasts_S8x64x16x8x64_S8x1024x8x64

/-- The number of a key. -/
def keyNo : IVec S8x1x1x1024 32 := iotaInDim S8x1x1x1024 32 3

/-- One integer at every key. -/
def every (n : BitVec 32) : IVec S8x1x1x1024 32 := broadcastInDim S8x1x1x1024 ![] bcast_S_S8x1x1x1024 (constantI S_ 32 n)

/-- The quotient of the key's number by sixteen, rounded down: the quotient towards zero, less one where the signs
    differ and there is a remainder. -/
def pageNo : IVec S8x1x1x1024 32 :=
  select
    (andi (cmpi .ne (signi keyNo) (broadcastInDim S8x1x1x1024 ![] bcast_S_S8x1x1x1024 (signi (constantI S_ 32 16#32))))
      (cmpi .ne (Host.remsi keyNo (every 16#32)) (every 0#32)))
    (subi (Host.divsi keyNo (every 16#32)) (every 1#32)) (Host.divsi keyNo (every 16#32))

/-- Which keys lie within a sequence's length. -/
def within (lens : IVec S8 32) : IVec S8x1x1x1024 1 :=
  cmpi .slt pageNo
    (broadcastInDim S8x1x1x1024 ![0, 1, 2, 3] bcast_S8x1x1x1_S8x1x1x1024_0_1_2_3
      (shapeCast S8x1x1x1 lens shapeCasts_S8_S8x1x1x1))

/-- The scores: the query against every key, scaled; minus infinity past the sequence's length. -/
def scores (q : FVec F S8x1x8x64 .f32) (k : FVec F S8x1024x8x64 .f32) (lens : IVec S8 32) : FVec F S8x8x1x1024 .f32 :=
  select (broadcastInDim S8x8x1x1024 ![0, 1, 2, 3] bcast_S8x1x1x1024_S8x8x1x1024_0_1_2_3 (within lens))
    (mulf (Host.dotGeneral dot_S8x1x8x64_S8x1024x8x64_S8x8x1x1024_3_3_1_1_02_02 none q k)
      (broadcastInDim S8x8x1x1024 ![] bcast_S_S8x8x1x1024 (constant S_ .f32 0x3E000000#32)))
    (broadcastInDim S8x8x1x1024 ![] bcast_S_S8x8x1x1024 (constant S_ .f32 0xFF800000#32))

/-- A number per row of scores, at every key of the row. -/
def along (x : FVec F S8x8x1 .f32) : FVec F S8x8x1x1024 .f32 :=
  broadcastInDim S8x8x1x1024 ![0, 1, 2, 3] bcast_S8x8x1x1_S8x8x1x1024_0_1_2_3
    (broadcastInDim S8x8x1x1 ![0, 1, 2] bcast_S8x8x1_S8x8x1x1_0_1_2 x)

/-- The exponentials of the scores less their row's maximum. -/
def expo (s : FVec F S8x8x1x1024 .f32) : FVec F S8x8x1x1024 .f32 :=
  Host.exp (subf s (along
    (Host.reduce FloatOps.maximumf s (constant S_ .f32 0xFF800000#32) reducesTo_S8x8x1x1024_S8x8x1_d3 h_S_)))

/-- A row divided by its sum. -/
def normed (e : FVec F S8x8x1x1024 .f32) : FVec F S8x8x1x1024 .f32 :=
  Host.divf e (along (Host.reduceAdd e (constant S_ .f32 0x00000000#32) reducesTo_S8x8x1x1024_S8x8x1_d3 h_S_))

/-- The reference's result. -/
def out (q : FVec F S8x1x8x64 .f32) (k v : FVec F S512x16x8x64 .f32) (bt : IVec S8x64 32) (lens : IVec S8 32) :
    FVec F S8x1x8x64 .f32 :=
  transpose S8x1x8x64 [0, 3, 1, 2]
    (Host.dotGeneral dot_S8x1024x8x64_S8x8x1x1024_S8x8x64x1_1_3_3_2_02_01 none (taken v bt)
      (normed (expo (scores q (taken k bt) lens)))) transposes_S8x8x64x1_S8x1x8x64_0_3_1_2

/-- The operations in order, the calls unfolded: the two gathers, the scores, the quotient by sixteen, the mask and
    the softmax. -/
abbrev ops : List (HloOp τ sig (Elt F)) :=
  [ TRef.unary (.of main_arg3 : TRef sig ⟨S8x64, .i32⟩) main_call0.v0 (broadcastInDim S8x64x1 ![0, 1] bcast_S8x64_S8x64x1_0_1),
    TRef.binary (.of main_arg1 : TRef sig ⟨S512x16x8x64, .f32⟩) main_call0.v0 main_call0.v1 (fun x i => Host.gather gather_S512x16x8x64_S8x64x1_S8x64x16x8x64_234_0_n_n_0_2_116864 x i),
    reshape main_v0 main_v1 rfl shapeCasts_S8x64x16x8x64_S8x1024x8x64,
    TRef.unary (.of main_arg3 : TRef sig ⟨S8x64, .i32⟩) main_call1.v0 (broadcastInDim S8x64x1 ![0, 1] bcast_S8x64_S8x64x1_0_1),
    TRef.binary (.of main_arg2 : TRef sig ⟨S512x16x8x64, .f32⟩) main_call1.v0 main_call1.v1 (fun x i => Host.gather gather_S512x16x8x64_S8x64x1_S8x64x16x8x64_234_0_n_n_0_2_116864 x i),
    reshape main_v2 main_v3 rfl shapeCasts_S8x64x16x8x64_S8x1024x8x64,
    binary main_arg0 main_v1 main_v4 (fun l r => Host.dotGeneral dot_S8x1x8x64_S8x1024x8x64_S8x8x1x1024_3_3_1_1_02_02 none l r),
    nullary main_cst (constant S_ .f32 0x3E000000#32),
    unary main_cst main_v5 (broadcastInDim S8x8x1x1024 ![] bcast_S_S8x8x1x1024),
    binary main_v4 main_v5 main_v6 mulf,
    nullary main_v7 (iotaInDim S8x1x1x1024 32 3),
    nullary main_c (constantI S_ 32 16#32),
    TRef.unary (.of main_c : TRef sig ⟨S_, .i32⟩) main_call2.v0 id,
    TRef.unary main_call2.v0 main_call2.v1 (broadcastInDim S8x1x1x1024 ![] bcast_S_S8x1x1x1024),
    TRef.binary (.of main_v7 : TRef sig ⟨S8x1x1x1024, .i32⟩) main_call2.v1 main_call2.v2 Host.divsi,
    TRef.unary (.of main_v7 : TRef sig ⟨S8x1x1x1024, .i32⟩) main_call2.v3 signi,
    TRef.unary main_call2.v0 main_call2.v4 signi,
    TRef.unary main_call2.v4 main_call2.v5 (broadcastInDim S8x1x1x1024 ![] bcast_S_S8x1x1x1024),
    TRef.binary main_call2.v3 main_call2.v5 main_call2.v6 (cmpi .ne),
    TRef.unary main_call2.v0 main_call2.v7 (broadcastInDim S8x1x1x1024 ![] bcast_S_S8x1x1x1024),
    TRef.binary (.of main_v7 : TRef sig ⟨S8x1x1x1024, .i32⟩) main_call2.v7 main_call2.v8 Host.remsi,
    TRef.nullary main_call2.c (constantI S_ 32 0#32),
    TRef.unary main_call2.c main_call2.v9 (broadcastInDim S8x1x1x1024 ![] bcast_S_S8x1x1x1024),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S8x1x1x1024 ![] bcast_S_S8x1x1x1024),
    TRef.binary main_call2.v2 main_call2.v12 main_call2.v13 subi,
    TRef.ternary main_call2.v11 main_call2.v13 main_call2.v2 main_call2.call0.v0 select,
    reshape main_arg4 main_v9 rfl shapeCasts_S8_S8x1x1x1,
    unary main_v9 main_v10 (broadcastInDim S8x1x1x1024 ![0, 1, 2, 3] bcast_S8x1x1x1_S8x1x1x1024_0_1_2_3),
    binary main_v8 main_v10 main_v11 (cmpi .slt),
    nullary main_cst_0 (constant S_ .f32 0xFF800000#32),
    TRef.unary (.of main_cst_0 : TRef sig ⟨S_, .f32⟩) main_call3.v0 id,
    TRef.unary (.of main_v11 : TRef sig ⟨S8x1x1x1024, .i1⟩) main_call3.v1 (broadcastInDim S8x8x1x1024 ![0, 1, 2, 3] bcast_S8x1x1x1024_S8x8x1x1024_0_1_2_3),
    TRef.unary main_call3.v0 main_call3.v2 (broadcastInDim S8x8x1x1024 ![] bcast_S_S8x8x1x1024),
    TRef.ternary main_call3.v1 (.of main_v6 : TRef sig ⟨S8x8x1x1024, .f32⟩) main_call3.v2 main_call3.v3 select,
    nullary main_cst_1 (constant S_ .f32 0xFF800000#32),
    binary main_v12 main_cst_1 main_v13 (fun x v => Host.reduce FloatOps.maximumf x v reducesTo_S8x8x1x1024_S8x8x1_d3 h_S_),
    unary main_v13 main_v14 (broadcastInDim S8x8x1x1 ![0, 1, 2] bcast_S8x8x1_S8x8x1x1_0_1_2),
    unary main_v14 main_v15 (broadcastInDim S8x8x1x1024 ![0, 1, 2, 3] bcast_S8x8x1x1_S8x8x1x1024_0_1_2_3),
    binary main_v12 main_v15 main_v16 subf,
    unary main_v16 main_v17 Host.exp,
    nullary main_cst_2 (constant S_ .f32 0x00000000#32),
    binary main_v17 main_cst_2 main_v18 (fun x v => Host.reduceAdd x v reducesTo_S8x8x1x1024_S8x8x1_d3 h_S_),
    unary main_v18 main_v19 (broadcastInDim S8x8x1x1 ![0, 1, 2] bcast_S8x8x1_S8x8x1x1_0_1_2),
    unary main_v19 main_v20 (broadcastInDim S8x8x1x1024 ![0, 1, 2, 3] bcast_S8x8x1x1_S8x8x1x1024_0_1_2_3),
    binary main_v17 main_v20 main_v21 Host.divf,
    binary main_v3 main_v21 main_v22 (fun l r => Host.dotGeneral dot_S8x1024x8x64_S8x8x1x1024_S8x8x64x1_1_3_3_2_02_01 none l r),
    unary main_v22 main_v23 (transpose S8x1x8x64 [0, 3, 1, 2] · transposes_S8x8x64x1_S8x1x8x64_0_3_1_2) ]

/-- The program is that straight line. -/
theorem main_eq (c : Dev nD) : main (F := F) c = seq ops := by
  simp only [main, fn_take.body, fn_floor_divide.body, fn_where.body, fn_where_0.body, seq, bind_assoc, pure_bind]
  rfl

/-- The result buffer ends at `out` of the arguments. -/
theorem out_eq (V : Valuation τ sig (Elt F)) :
    after ops V (main_v23 : DevRef τ sig)
      = out (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig) := by
  refine ⟨?_, ?_, ?_, ?_, ?_⟩ <;> (simp only [after_cons, after_nil]; rfl)

/-- No buffer is scoped, -/
theorem scopedRefs_eq : (Finset.univ.filter fun b : Ref sig .tc => b.isScoped) = ∅ := by decide

/-- and no semaphore. -/
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig := by
  simp only [List.Forall, TRef.unary, TRef.binary, TRef.nullary, TRef.ternary, unary_bufs_sub, binary_bufs_sub, nullary_bufs_sub,
    ternary_bufs_sub, reshape_bufs_sub, and_self]

/-- Every run ends; its result buffer holds `out` of the arguments, which are unchanged. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c main_v23).trans (out_eq _), (h c main_arg0).trans (args_eq _).1, (h c main_arg1).trans (args_eq _).2.1,
      (h c main_arg2).trans (args_eq _).2.2.1, (h c main_arg3).trans (args_eq _).2.2.2.1,
      (h c main_arg4).trans (args_eq _).2.2.2.2⟩)
    (run_seq scopedRefs_eq scopedSems_eq defs main (fun _ => ops) main_eq (fun _ => ops_sub) m ρ)

/-- The reference's frame at `Ideal`: the arguments end unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2, sem_eq_zero_of_no_sems (by decide) r.2⟩) (run_main m ρ)

end Cert.RefRun

end
-- ==== Proof.Frames.lean ====
/- The frames: each program ends with its arguments unchanged and every counter at zero. And the one named constant. -/
module

public import proofs.«01_k».proof.Defs
public import proofs.«01_k».proof.Proof.Run
public import proofs.«01_k».proof.Proof.Plain.Run
public import proofs.«01_k».proof.Proof.Ref

@[expose] public section

noncomputable section

namespace Cert.Proof.Claims

open Idealize.ShloMosaic Idealize.ShloMosaic.TcCoe Idealize.SL.Sem

/-- The kernel's frame. -/
theorem frame_p : Cert.quiescent_Kernel := fun m ρ _ =>
  (θ_run Cert.Kernel.defs _ _).mono
    (fun _ h => ⟨fun c => ⟨(h.1 c 0).trans (GatherStatsPlain.finalA_q m ρ c), (h.1 c 1).trans (GatherStatsPlain.finalA_k m ρ c),
      (h.1 c 2).trans (GatherStatsPlain.finalA_v m ρ c), (h.1 c 3).trans (GatherStatsPlain.finalA_bt m ρ c),
      (h.1 c 4).trans (GatherStatsPlain.finalA_lens m ρ c)⟩, h.2⟩)
    (GatherStatsPlain.run_main m ρ)

/-- The frame of the kernel with its constant named. -/
theorem frame_pi : Cert.quiescent_KernelIdeal := fun m ρ _ =>
  (θ_run Cert.KernelIdeal.defs _ _).mono
    (fun _ h => ⟨fun c => ⟨(h.1 c 0).trans (GatherStats.finalA_q m ρ c), (h.1 c 1).trans (GatherStats.finalA_k m ρ c),
      (h.1 c 2).trans (GatherStats.finalA_v m ρ c), (h.1 c 3).trans (GatherStats.finalA_bt m ρ c),
      (h.1 c 4).trans (GatherStats.finalA_lens m ρ c)⟩, h.2⟩)
    (GatherStats.run_main m ρ)

/-- The reference's frame. -/
theorem frame_ri : Cert.quiescent_ReferenceIdeal := fun m ρ _ => RefRun.frame m ρ

/-- The certificate's table gives the mask the value minus infinity. -/
theorem preserves : Cert.preserves_Kernel_KernelIdeal :=
  IdealRules.named_const.statement Cert.KernelIdeal.κ "mask" .f32 0xF149F2CA#32 ⊥ rfl

end Cert.Proof.Claims

end
-- ==== Proof.Value.Softmax.lean ====
/- The softmax over the extended reals: rows of partial sums, each taken from its own maximum, combine to the whole;
   a page that a table names several times counts as often; the shift cancels in the quotient. -/
module

public import Idealize.ShloMosaic.PureOps.Ideal
public import Idealize.ShloMosaic.PureOps.Ideal.Laws

@[expose] public section

noncomputable section

namespace Cert.Softmax

open Idealize.ShloMosaic
open scoped BigOperators

variable {ι : Type} [Fintype ι]

/-- A sum of extended reals times a real that is not negative is the sum of the products. -/
theorem sum_mul_coe (S : Finset ι) (f : ι → EReal) (r : ℝ) (hr : 0 ≤ r) :
    (∑ i ∈ S, f i) * (r : EReal) = ∑ i ∈ S, f i * (r : EReal) := by
  classical
  induction S using Finset.induction with
  | empty => simp
  | insert a S ha ih =>
    rw [Finset.sum_insert ha, Finset.sum_insert ha,
      EReal.right_distrib_of_nonneg_of_ne_top (by exact_mod_cast hr) (EReal.coe_ne_top r), ih]

/-- A sum of reals, as an extended real. -/
theorem coe_sum (S : Finset ι) (f : ι → ℝ) : ∑ i ∈ S, ((f i : ℝ) : EReal) = ((∑ i ∈ S, f i : ℝ) : EReal) := by
  classical
  induction S using Finset.induction with
  | empty => simp
  | insert a S ha ih => rw [Finset.sum_insert ha, Finset.sum_insert ha, ih, EReal.coe_add]

/-- A shift of the exponent splits into two. -/
theorem exp_shift (s : EReal) (hs : s ≠ ⊤) (a M : ℝ) :
    Ideal.exp (s - a) * ((Real.exp (a - M) : ℝ) : EReal) = Ideal.exp (s - M) := by
  induction s with
  | bot => simp
  | top => exact absurd rfl hs
  | coe s =>
    rw [← EReal.coe_sub, ← EReal.coe_sub, Ideal.exp_coe, Ideal.exp_coe, ← EReal.coe_mul, ← Real.exp_add]
    rw [show s - a + (a - M) = s - M by ring]

/-- The exponential of a difference from a real is a real that is not negative, and positive unless the exponent is
    minus infinity. -/
theorem exp_real (s : EReal) (hs : s ≠ ⊤) (a : ℝ) :
    ∃ e : ℝ, 0 ≤ e ∧ (s ≠ ⊥ → 0 < e) ∧ Ideal.exp (s - a) = (e : EReal) := by
  induction s with
  | bot => exact ⟨0, le_rfl, fun h => absurd rfl h, by simp⟩
  | top => exact absurd rfl hs
  | coe s =>
    exact ⟨Real.exp (s - a), (Real.exp_pos _).le, fun _ => Real.exp_pos _, by rw [← EReal.coe_sub, Ideal.exp_coe]⟩

/-- The maximum of finitely many extended reals, none of them plus infinity, is not plus infinity. -/
theorem sup_ne_top (s : ι → EReal) (hs : ∀ i, s i ≠ ⊤) : Finset.univ.sup s ≠ ⊤ :=
  ((Finset.sup_lt_iff bot_lt_top).mpr fun i _ => lt_top_iff_ne_top.mpr (hs i)).ne

/-- Nor is it minus infinity if one of them is not. -/
theorem sup_ne_bot (s : ι → EReal) (i : ι) (hi : s i ≠ ⊥) : Finset.univ.sup s ≠ ⊥ := fun h =>
  hi (le_bot_iff.mp (h ▸ Finset.le_sup (f := s) (Finset.mem_univ i)))

/-- One row: its sum of exponentials from its own maximum, rescaled, is its sum of exponentials from any real. -/
theorem part (s v : ι → EReal) (hs : ∀ i, s i ≠ ⊤) (M : ℝ) :
    (∑ i, Ideal.exp (s i - Finset.univ.sup s) * v i) * Ideal.exp (Finset.univ.sup s - M)
      = ∑ i, Ideal.exp (s i - M) * v i := by
  have hle : ∀ i, s i ≤ Finset.univ.sup s := fun i => Finset.le_sup (f := s) (Finset.mem_univ i)
  have htop := sup_ne_top s hs
  generalize Finset.univ.sup s = m at hle htop
  induction m with
  | bot =>
    have hb : ∀ i, s i = ⊥ := fun i => le_bot_iff.mp (hle i)
    simp [hb]
  | top => exact absurd rfl htop
  | coe a =>
    rw [← EReal.coe_sub, Ideal.exp_coe, sum_mul_coe _ _ _ (Real.exp_pos _).le]
    refine Finset.sum_congr rfl fun i _ => ?_
    rw [mul_right_comm, exp_shift _ (hs i)]

/-- The same row without values. -/
theorem part_one (s : ι → EReal) (hs : ∀ i, s i ≠ ⊤) (M : ℝ) :
    (∑ i, Ideal.exp (s i - Finset.univ.sup s)) * Ideal.exp (Finset.univ.sup s - M) = ∑ i, Ideal.exp (s i - M) := by
  simpa using part s (fun _ => 1) hs M

/-- The quotient does not depend on the real from which the exponents are taken: it is the sum of the values, each times
    its softmax weight. -/
theorem quotient (s v : ι → EReal) (hs : ∀ i, s i ≠ ⊤) (i₀ : ι) (h₀ : s i₀ ≠ ⊥) (M : ℝ) :
    Ideal.div (∑ i, Ideal.exp (s i - M) * v i) (∑ i, Ideal.exp (s i - M))
      = ∑ i, v i * Ideal.div (Ideal.exp (s i - Finset.univ.sup s)) (∑ k, Ideal.exp (s k - Finset.univ.sup s)) := by
  have htop := sup_ne_top s hs
  have hbot := sup_ne_bot s i₀ h₀
  generalize Finset.univ.sup s = m at htop hbot
  induction m with
  | bot => exact absurd rfl hbot
  | top => exact absurd rfl htop
  | coe a =>
    choose e he he' hE using fun i => exp_real (s i) (hs i) a
    have hD : ∑ k, Ideal.exp (s k - a) = ((∑ k, e k : ℝ) : EReal) := by
      rw [Finset.sum_congr rfl fun k _ => hE k, coe_sum]
    have hpos : 0 < ∑ k, e k := Finset.sum_pos' (fun k _ => he k) ⟨i₀, Finset.mem_univ _, he' i₀ h₀⟩
    have hc : (0 : ℝ) < Real.exp (a - M) := Real.exp_pos _
    have hM : ∀ i, Ideal.exp (s i - M) = Ideal.exp (s i - a) * ((Real.exp (a - M) : ℝ) : EReal) := fun i =>
      (exp_shift (s i) (hs i) a M).symm
    have hO : ∑ i, Ideal.exp (s i - M) * v i = (∑ i, Ideal.exp (s i - a) * v i) * ((Real.exp (a - M) : ℝ) : EReal) := by
      rw [sum_mul_coe _ _ _ hc.le]
      exact Finset.sum_congr rfl fun i _ => by rw [hM i, mul_right_comm]
    have hL : ∑ i, Ideal.exp (s i - M) = (((∑ k, e k) * Real.exp (a - M) : ℝ) : EReal) := by
      rw [EReal.coe_mul, ← hD, sum_mul_coe _ _ _ hc.le]
      exact Finset.sum_congr rfl fun i _ => hM i
    rw [hO, hL, hD, Ideal.div_coe (mul_pos hpos hc).ne', mul_assoc, ← EReal.coe_mul,
      show Real.exp (a - M) * (1 / ((∑ k, e k) * Real.exp (a - M))) = 1 / ∑ k, e k by field_simp,
      sum_mul_coe _ _ _ (one_div_pos.mpr hpos).le]
    refine Finset.sum_congr rfl fun i _ => ?_
    rw [Ideal.div_coe hpos.ne', mul_comm (Ideal.exp (s i - a)), mul_assoc]

/-- The logarithm of a count; of zero, minus infinity. -/
def logCount (n : ℕ) : EReal := if n = 0 then ⊥ else ((Real.log n : ℝ) : EReal)

/-- It is never plus infinity. -/
theorem logCount_ne_top (n : ℕ) : logCount n ≠ ⊤ := by
  unfold logCount; split
  · exact bot_ne_top
  · exact EReal.coe_ne_top _

/-- A score with the logarithm of its count added weighs as often as it is counted. -/
theorem exp_count (z M : ℝ) (n : ℕ) :
    Ideal.exp ((z : EReal) + logCount n - M) = ((n : ℝ) : EReal) * Ideal.exp ((z : EReal) - M) := by
  unfold logCount
  split
  · next h => simp [h]
  · next h =>
    have hn : (0 : ℝ) < n := by exact_mod_cast Nat.pos_of_ne_zero h
    rw [← EReal.coe_add, ← EReal.coe_sub, ← EReal.coe_sub, Ideal.exp_coe, Ideal.exp_coe, ← EReal.coe_mul,
      show z + Real.log n - M = Real.log n + (z - M) by ring, Real.exp_add, Real.exp_log hn]

/-- A number of times is a sum of ones. -/
theorem count_mul {κ : Type} [Fintype κ] (P : κ → Prop) [DecidablePred P] (x : EReal) :
    (((Finset.univ.filter P).card : ℝ) : EReal) * x = ∑ j, if P j then x else 0 := by
  rw [← Finset.sum_filter, Finset.sum_const]
  induction (Finset.univ.filter P).card with
  | zero => simp
  | succ n ih =>
    rw [succ_nsmul, ← ih, Nat.cast_succ, EReal.coe_add,
      EReal.right_distrib_of_nonneg (by exact_mod_cast n.cast_nonneg) (by exact_mod_cast zero_le_one)]
    simp

/-- Over all pages, each weighed by the number of entries that name it, is over all entries. -/
theorem pages {π τ κ : Type} [Fintype π] [DecidableEq π] [Fintype τ] [Fintype κ] (z : π → τ → ℝ) (v : π → τ → EReal) (G : κ → π)
    (used : κ → Prop) [DecidablePred used] (M : ℝ) :
    ∑ g, ∑ t, Ideal.exp ((z g t : EReal) + logCount (Finset.univ.filter fun j => used j ∧ G j = g).card - M) * v g t
      = ∑ j, ∑ t, Ideal.exp ((if used j then (z (G j) t : EReal) else ⊥) - M) * v (G j) t := by
  have h1 : ∀ g t, Ideal.exp ((z g t : EReal) + logCount (Finset.univ.filter fun j => used j ∧ G j = g).card - M) * v g t
      = ∑ j, if used j ∧ G j = g then Ideal.exp ((z g t : EReal) - M) * v g t else 0 := fun g t => by
    rw [exp_count, mul_assoc, count_mul]
  have h2 : ∀ j t, Ideal.exp ((if used j then (z (G j) t : EReal) else ⊥) - M) * v (G j) t
      = ∑ g, if used j ∧ G j = g then Ideal.exp ((z g t : EReal) - M) * v g t else 0 := fun j t => by
    by_cases h : used j
    · simp [h]
    · simp [h]
  simp only [h1, h2]
  rw [Finset.sum_congr rfl fun g _ => Finset.sum_comm, Finset.sum_comm]
  exact Finset.sum_congr rfl fun j _ => Finset.sum_comm

end Cert.Softmax

end
-- ==== Proof.Value.Row.lean ====
/- One device's row of softmax statistics as sums over the keys of its shard: for each sequence and head the weighted
   values, the largest score and the sum of the weights. -/
module

public import proofs.«01_k».proof.Proof.Body
public import proofs.«01_k».proof.Proof.Value.Softmax
public import Idealize.ShloMosaic.Lib.Pointwise
public import Idealize.ShloMosaic.Lib.IdealHost

@[expose] public section

set_option maxRecDepth 16384

noncomputable section

namespace Cert.Row

open Cert.KernelIdeal Cert.KernelIdeal.Gen Cert.GatherStats Cert.Softmax
open Idealize.ShloMosaic

/-! ## Bit patterns -/

/-- The pattern of minus infinity. -/
theorem bits_bot : Ideal.ofBits .f32 0xFF800000#32 = ⊥ := by simp [Ideal.ofBits, Ideal.ieee]

/-- The pattern of an eighth. -/
theorem bits_eighth : Ideal.ofBits .f32 0x3E000000#32 = ((1 / 8 : ℝ) : EReal) := by
  simp [Ideal.ofBits, Ideal.ieee]
  norm_cast
  norm_num

/-- The floor under the counts is at most one. -/
theorem bits_floor : Ideal.ofBits .f32 0x0DA24260#32 ≤ ((1 : ℝ) : EReal) := by
  have e : Ideal.ofBits .f32 0x0DA24260#32 = ((10633824 * (2 : ℝ) ^ (-123 : ℤ) : ℝ) : EReal) := by
    simp [Ideal.ofBits, Ideal.ieee]
  rw [e]
  norm_cast
  norm_num

/-- The mask is minus infinity. -/
theorem mask_bot : Named.named (F := Ideal) Cert.KernelIdeal.κ "mask" (φ := .f32) 0xF149F2CA#32 = ⊥ :=
  IdealRules.named_const.ideal_named_scalar _ _ _ _ rfl

/-! ## Words -/

/-- A comparison as a number. -/
theorem flag (p : Prop) [Decidable p] (w : BitVec 1) (h : w = if p then 1#1 else 0#1) :
    FloatOps.sitofp (F := Ideal) FTy.f32 (BitVec.setWidth 32 w) = if p then 1 else 0 := by
  subst h
  split
  · show (((1 : ℤ) : ℝ) : EReal) = 1; simp
  · show (((0 : ℤ) : ℝ) : EReal) = 0; simp

/-- The page of a key of the shard: its number's quotient by sixteen, rounded down. -/
theorem page_word (n : Fin 1024) :
    Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 n) 16#32) 0#32))
      (IntOp.subi (IntOp.divsi ArithUnit.vector (BitVec.ofNat 32 n) 16#32) 1#32)
      (IntOp.divsi ArithUnit.vector (BitVec.ofNat 32 n) 16#32) = BitVec.ofNat 32 (n / 16) := by
  revert n; decide +kernel

/-- The column of heads: sixty-four numbers a head, rounded down. -/
theorem block_word (n : Fin 512) :
    Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n) 64#32) 0#32))
      (IntOp.subi (IntOp.divsi ArithUnit.vector (BitVec.ofNat 32 n) 64#32) 1#32)
      (IntOp.divsi ArithUnit.vector (BitVec.ofNat 32 n) 64#32) = BitVec.ofNat 32 (n / 64) := by
  revert n; decide +kernel

/-- The head of a row: the rest of its number by eight, of the divisor's sign. -/
theorem head_word (r : Fin 64) :
    Scalar.select
      (IntOp.andi
        (IntOp.xori (IntOp.cmpi CmpIPredicate.slt (IntOp.remsi ArithUnit.vector (BitVec.ofNat 32 r) heads) 0#32)
          (Scalar.cmpi CmpIPredicate.slt heads 0#32))
        (IntOp.cmpi CmpIPredicate.ne (IntOp.remsi ArithUnit.vector (BitVec.ofNat 32 r) heads) 0#32))
      (IntOp.addi (IntOp.remsi ArithUnit.vector (BitVec.ofNat 32 r) heads) heads)
      (IntOp.remsi ArithUnit.vector (BitVec.ofNat 32 r) heads) = BitVec.ofNat 32 (r % 8) := by
  revert r; decide +kernel

/-- A truth value as a bit. -/
theorem bit (p : Prop) [Decidable p] : BitVec.ofBool (decide p) = if p then 1#1 else 0#1 := by
  by_cases h : p <;> simp [h]

/-- Equality of words, as a bit. -/
theorem eq_bit (x y : BitVec 32) : IntOp.cmpi CmpIPredicate.eq x y = if x = y then 1#1 else 0#1 := bit (x = y)

/-- The signed order of words, as a bit. -/
theorem slt_bit (x y : BitVec 32) : IntOp.cmpi CmpIPredicate.slt x y = if x.toInt < y.toInt then 1#1 else 0#1 :=
  bit (x.toInt < y.toInt)

/-- Words of small numbers are equal where the numbers are. -/
theorem eq_word (a b : ℕ) (ha : a < 2 ^ 32) (hb : b < 2 ^ 32) :
    IntOp.cmpi CmpIPredicate.eq (BitVec.ofNat 32 a) (BitVec.ofNat 32 b) = if a = b then 1#1 else 0#1 := by
  have e : BitVec.ofNat 32 a = BitVec.ofNat 32 b ↔ a = b := by
    rw [← BitVec.toNat_inj, BitVec.toNat_ofNat, BitVec.toNat_ofNat, Nat.mod_eq_of_lt ha, Nat.mod_eq_of_lt hb]
  simp only [eq_bit, e]

/-- A device's place on its axis is its number. -/
theorem axis_word (c : Dev nD) : axisWord c = BitVec.ofNat 32 c.val := by revert c; decide

/-! ## The one-hot matrices -/

/-- A row belongs to its sequence. -/
theorem seq_hot (r : Fin 64) (b : Fin 8) : k0_pay4 (F := Ideal) (ix2 r b) = if r.val / 8 = b.val then 1 else 0 := by
  pointwise [k0_pay4]
  refine flag _ _ ?_
  revert r b
  decide +kernel

/-- A row reads its head's columns. -/
theorem head_hot (r : Fin 64) (x : Fin 512) :
    k0_pay8 (F := Ideal) heads k0_pay5 k0_pay6 k0_pay7 0#32 (ix2 r x) = if r.val % 8 = x.val / 64 then 1 else 0 := by
  pointwise [k0_pay8, k0_pay5, k0_pay6, k0_pay7]
  refine flag _ _ ?_
  rw [block_word, head_word, eq_word _ _ (by omega) (by omega)]

/-- A sum against a one-hot vector is the one entry. -/
theorem pick {n : ℕ} (f : Fin n → EReal) (i : Fin n) : ∑ x, (if i.val = x.val then 1 else 0) * f x = f i := by
  rw [Finset.sum_eq_single i]
  · simp
  · intro x _ hx; rw [if_neg fun h : i.val = x.val => hx (Fin.ext h.symm), zero_mul]
  · simp

/-- A sum over the columns in which all but one head's are nought is the sum over that head's. -/
theorem pick_head (f : Fin 512 → EReal) (h : Fin 8) (hf : ∀ x : Fin 512, h.val ≠ x.val / 64 → f x = 0) :
    ∑ x, f x = ∑ d : Fin 64, f ⟨h.val * 64 + d.val, by omega⟩ := by
  rw [← (finProdFinEquiv (m := 8) (n := 64)).sum_comp, Fintype.sum_prod_type, Finset.sum_eq_single h]
  · refine Finset.sum_congr rfl fun d _ => congrArg f (Fin.ext ?_)
    simp [finProdFinEquiv]; omega
  · intro g _ hg
    refine Finset.sum_eq_zero fun d _ => hf _ fun e => hg (Fin.ext ?_)
    rw [e]; simp [finProdFinEquiv]; omega
  · simp

/-! ## The counts -/

/-- Place `j` of a block table holds one of the sequence's pages. -/
def used (lens : IVec S8 32) (b : Fin 8) (j : Fin 64) : Prop := (BitVec.ofNat 32 j.val).toInt < (lens (ix1 b)).toInt

/-- Whether an entry is used is decided by comparing two words. -/
instance (lens : IVec S8 32) (b : Fin 8) : DecidablePred (used lens b) := fun _ => inferInstanceAs (Decidable (_ < _))

/-- How often a sequence's block table names page `g`. -/
def count (bt : IVec S8x64 32) (lens : IVec S8 32) (b : Fin 8) (g : ℕ) : ℕ :=
  (Finset.univ.filter fun j : Fin 64 => used lens b j ∧ bt (ix2 b j) = BitVec.ofNat 32 g).card

/-- A place names the shard's page `p` when it is in use and its entry, less the shard's first page, is `p`. -/
theorem names_word (c : Dev nD) (x : BitVec 32) (u : Prop) [Decidable u] (w : BitVec 1) (hw : w = if u then 1#1 else 0#1) (p : Fin 64) :
    IntOp.cmpi CmpIPredicate.eq (Scalar.select w (IntOp.subi x (Scalar.muli (axisWord c) 64#32)) 4294967295#32) (BitVec.ofNat 32 p.val)
      = if u ∧ x = BitVec.ofNat 32 (64 * c.val + p.val) then 1#1 else 0#1 := by
  subst hw
  rw [axis_word]
  have e : Scalar.muli (BitVec.ofNat 32 c.val) 64#32 = BitVec.ofNat 32 (64 * c.val) := by
    revert c; decide
  rw [e]
  rw [eq_bit]
  by_cases hu : u
  · have h : x - BitVec.ofNat 32 (64 * c.val) = BitVec.ofNat 32 p.val ↔ x = BitVec.ofNat 32 (64 * c.val + p.val) := by
      rw [BitVec.ofNat_add]
      constructor
      · intro e; rw [← e, BitVec.add_comm, BitVec.sub_add_cancel]
      · rintro rfl; rw [BitVec.add_comm, BitVec.add_sub_cancel]
    simp only [hu, if_true, true_and]
    exact if_congr h rfl rfl
  · have : ¬ (4294967295#32 = BitVec.ofNat 32 p.val) := by revert p; decide
    simp [hu, Scalar.select, this]

/-- The counts of a shard's pages, at each of its keys. -/
theorem counts (c : Dev nD) (bt : IVec S8x64 32) (lens : IVec S8 32) (b : Fin 8) (x : Fin 1024) :
    k0_pay2 (F := Ideal) (axisWord c) bt lens (ix2 b x) = ((count bt lens b (64 * c.val + x.val / 16) : ℝ) : EReal) := by
  pointwise [k0_pay2]
  simp only [page_word]
  rw [show ((count bt lens b (64 * c.val + x.val / 16) : ℝ) : EReal)
      = ((count bt lens b (64 * c.val + x.val / 16) : ℕ) : EReal) from rfl, count, Finset.natCast_card_filter]
  refine Finset.sum_congr rfl fun j _ => flag _ _ ?_
  exact names_word c _ (used lens b j) _ (slt_bit _ _) ⟨x.val / 16, by omega⟩

/-- Their logarithms. -/
theorem logs (c : Dev nD) (bt : IVec S8x64 32) (lens : IVec S8 32) (b : Fin 8) (x : Fin 1024) :
    k0_pay3 (F := Ideal) (k0_pay2 (axisWord c) bt lens) 0 (ix2 b x)
      = logCount (count bt lens b (64 * c.val + x.val / 16)) := by
  pointwise [k0_pay3]
  rw [counts, mask_bot]
  generalize count bt lens b (64 * c.val + x.val / 16) = n
  unfold logCount
  by_cases hn : n = 0
  · subst hn; simp
  · have h1 : (1 : ℝ) ≤ n := by exact_mod_cast Nat.one_le_iff_ne_zero.2 hn
    have h0 : (0 : EReal) < ((n : ℝ) : EReal) := by exact_mod_cast lt_of_lt_of_le zero_lt_one h1
    rw [if_pos h0, if_neg hn, max_eq_left (bits_floor.trans (EReal.coe_le_coe_iff.2 h1))]
    exact (if_neg (by linarith : ¬ ((n : ℝ) ≤ 0)) : (if (n : ℝ) ≤ 0 then (⊥ : EReal) else (Real.log n : ℝ)) = _)

/-! ## The row -/

/-- The row's number of a sequence and a head. -/
def line (b h : Fin 8) : Fin 64 := ⟨b.val * 8 + h.val, by omega⟩

/-- The query of a sequence's head against a key. -/
def dot (q : FVec Ideal S8x1x8x64 .f32) (k : Fin 64 → EReal) (b h : Fin 8) : EReal := ∑ d : Fin 64, q (ix4 b 0 h d) * k d

/-- The score of a key of the shard: the scaled product, plus the logarithm of how often its page is named. -/
def score (c : Dev nD) (q : FVec Ideal S8x1x8x64 .f32) (k : FVec Ideal S64x16x8x64 .f32) (bt : IVec S8x64 32) (lens : IVec S8 32)
    (b h : Fin 8) (x : Fin 64 × Fin 16) : EReal :=
  dot q (fun d => k (ix4 x.1 x.2 h d)) b h * ((1 / 8 : ℝ) : EReal) + logCount (count bt lens b (64 * c.val + x.1.val))

/-- A key's number as its page and its place in the page. -/
def split (x : Fin 1024) : Fin 64 × Fin 16 := (⟨x.val / 16, by omega⟩, ⟨x.val % 16, by omega⟩)

/-- The scores before the logarithm of the counts. -/
theorem products (q : FVec Ideal S8x1x8x64 .f32) (k : FVec Ideal S64x16x8x64 .f32) (b h : Fin 8) (x : Fin 1024) :
    k0_pay10 (F := Ideal) (k0_pay1 q) k0_pay4 heads k0_pay5 k0_pay6 k0_pay7 0#32 k (ix2 (line b h) x)
      = dot q (fun d => k (ix4 (split x).1 (split x).2 h d)) b h * ((1 / 8 : ℝ) : EReal) := by
  pointwise [k0_pay10]
  rw [bits_eighth]
  congr 1
  have hb : (line b h).val / 8 = b.val := by show (b.val * 8 + h.val) / 8 = _; omega
  have hh : (line b h).val % 8 = h.val := by show (b.val * 8 + h.val) % 8 = _; omega
  simp only [seq_hot, head_hot, hb, hh, pick]
  rw [pick_head _ h fun y hy => by simp [hy]]
  refine Finset.sum_congr rfl fun d _ => ?_
  have e1 : (h.val * 64 + d.val) / 64 = h.val := by omega
  have e2 : (h.val * 64 + d.val) % 64 = d.val := by omega
  pointwise [k0_pay1]
  simp only [e1, e2, if_true, mul_one, split]

/-- The logarithm of the counts, at every row. -/
theorem spread (c : Dev nD) (bt : IVec S8x64 32) (lens : IVec S8 32) (b h : Fin 8) (x : Fin 1024) :
    k0_pay9 (F := Ideal) (k0_pay3 (k0_pay2 (axisWord c) bt lens) 0) k0_pay4 (ix2 (line b h) x)
      = logCount (count bt lens b (64 * c.val + (split x).1.val)) := by
  pointwise [k0_pay9]
  have hb : (line b h).val / 8 = b.val := by show (b.val * 8 + h.val) / 8 = _; omega
  simp only [seq_hot, hb, pick]
  exact logs c bt lens b x

/-- Pages and places number the keys. -/
def splitEquiv : Fin 1024 ≃ Fin 64 × Fin 16 where
  toFun := split
  invFun y := ⟨y.1.val * 16 + y.2.val, by omega⟩
  left_inv x := Fin.ext (by simp [split]; omega)
  right_inv y := Prod.ext (Fin.ext (by simp [split]; omega)) (Fin.ext (by simp [split]))

/-- The largest over keys numbered in a row is the largest over pages and places in them. -/
theorem sup_split (s : Fin 64 × Fin 16 → EReal) : Finset.univ.sup (fun x => s (split x)) = Finset.univ.sup s := by
  simp only [Finset.sup_univ_eq_iSup]
  exact splitEquiv.iSup_comp

/-- A sum over keys numbered in a row is the sum over pages and places in them. -/
theorem sum_split (f : Fin 64 × Fin 16 → EReal) : ∑ x, f (split x) = ∑ x, f x := splitEquiv.sum_comp f

/-- What a row of statistics holds past its values: the largest of the scores. -/
theorem last_max (a : FVec Ideal S64x512 .f32) (g p : FVec Ideal S64x1024 .f32) (v : Vec Ideal S64x16x8x64 .f32) (r : Fin 64)
    (s : Fin 64 × Fin 16 → EReal) (hs : ∀ x, p (ix2 r x) + g (ix2 r x) = s (split x)) :
    k0_pay11 (F := Ideal) a g p v (ix3 0 r 64) = Finset.univ.sup s := by
  pointwise [k0_pay11]
  simp only [hs, bits_bot]
  exact sup_split s

/-- And the sum of the weights. -/
theorem last_sum (a : FVec Ideal S64x512 .f32) (g p : FVec Ideal S64x1024 .f32) (v : Vec Ideal S64x16x8x64 .f32) (r : Fin 64)
    (s : Fin 64 × Fin 16 → EReal) (hs : ∀ x, p (ix2 r x) + g (ix2 r x) = s (split x)) :
    k0_pay11 (F := Ideal) a g p v (ix3 0 r 65) = ∑ x, Ideal.exp (s x - Finset.univ.sup s) := by
  pointwise [k0_pay11]
  simp only [hs, bits_bot]
  rw [← sup_split s, ← sum_split]
  rfl

/-- Its values: those of the row's head, weighted. -/
theorem first_value (a : FVec Ideal S64x512 .f32) (g p : FVec Ideal S64x1024 .f32) (v : Vec Ideal S64x16x8x64 .f32) (r : Fin 64)
    (s : Fin 64 × Fin 16 → EReal) (hs : ∀ x, p (ix2 r x) + g (ix2 r x) = s (split x)) (h : Fin 8)
    (ha : ∀ x : Fin 512, a (ix2 r x) = if h.val = x.val / 64 then 1 else 0) (d : Fin 64) :
    k0_pay11 (F := Ideal) a g p v (ix3 0 r ⟨d.val, by omega⟩)
      = ∑ x, Ideal.exp (s x - Finset.univ.sup s) * v (ix4 x.1 x.2 h d) := by
  pointwise [k0_pay11]
  simp only [hs, bits_bot, ha]
  have m : (Finset.univ.fold max ⊥ fun x => s (split x)) = Finset.univ.sup s := sup_split s
  rw [m, ← sum_split]
  have q0 : d.val / 64 = 0 := by omega
  have q1 : (64 + d.val) / 64 = 1 := by omega
  have q2 : (128 + d.val) / 64 = 2 := by omega
  have q3 : (192 + d.val) / 64 = 3 := by omega
  have q4 : (256 + d.val) / 64 = 4 := by omega
  have q5 : (320 + d.val) / 64 = 5 := by omega
  have q6 : (384 + d.val) / 64 = 6 := by omega
  have q7 : (448 + d.val) / 64 = 7 := by omega
  have r0 : d.val % 64 = d.val := by omega
  have r1 : (64 + d.val) % 64 = d.val := by omega
  have r2 : (128 + d.val) % 64 = d.val := by omega
  have r3 : (192 + d.val) % 64 = d.val := by omega
  have r4 : (256 + d.val) % 64 = d.val := by omega
  have r5 : (320 + d.val) % 64 = d.val := by omega
  have r6 : (384 + d.val) % 64 = d.val := by omega
  have r7 : (448 + d.val) % 64 = d.val := by omega
  simp only [q0, q1, q2, q3, q4, q5, q6, q7, r0, r1, r2, r3, r4, r5, r6, r7]
  fin_cases h <;> simp [split]

section
variable (c : Dev nD) (q : FVec Ideal S8x1x8x64 .f32) (k v : FVec Ideal S64x16x8x64 .f32) (bt : IVec S8x64 32) (lens : IVec S8 32)
  (b h : Fin 8)

/-- The scores of a line of the row. -/
theorem line_scores (x : Fin 1024) :
    k0_pay10 (F := Ideal) (k0_pay1 q) k0_pay4 heads k0_pay5 k0_pay6 k0_pay7 0#32 k (ix2 (line b h) x)
        + k0_pay9 (F := Ideal) (k0_pay3 (k0_pay2 (axisWord c) bt lens) (Scalar.ofBits .f32 0x00000000#32)) k0_pay4 (ix2 (line b h) x)
      = score c q k bt lens b h (split x) :=
  congrArg₂ (· + ·) (products q k b h x) ((congrArg (fun z => k0_pay9 (F := Ideal) (k0_pay3 (k0_pay2 (axisWord c) bt lens) z) k0_pay4
    (ix2 (line b h) x)) Ideal.ofBits_zero_f32).trans (spread c bt lens b h x))

/-- The weighted values. -/
theorem stats_value (d : Fin 64) :
    stats (F := Ideal) (axisWord c) q k v bt lens (ix3 0 (line b h) ⟨d.val, by omega⟩)
      = ∑ x, Ideal.exp (score c q k bt lens b h x - Finset.univ.sup (score c q k bt lens b h)) * v (ix4 x.1 x.2 h d) :=
  first_value _ _ _ _ _ _ (line_scores c q k bt lens b h) h
    (fun x => (head_hot _ x).trans (by rw [show (line b h).val % 8 = h.val by show (b.val * 8 + h.val) % 8 = _; omega])) d

/-- The largest score. -/
theorem stats_max :
    stats (F := Ideal) (axisWord c) q k v bt lens (ix3 0 (line b h) 64) = Finset.univ.sup (score c q k bt lens b h) :=
  last_max _ _ _ _ _ _ (line_scores c q k bt lens b h)

/-- The sum of the weights. -/
theorem stats_sum :
    stats (F := Ideal) (axisWord c) q k v bt lens (ix3 0 (line b h) 65)
      = ∑ x, Ideal.exp (score c q k bt lens b h x - Finset.univ.sup (score c q k bt lens b h)) :=
  last_sum _ _ _ _ _ _ (line_scores c q k bt lens b h)

end

end Cert.Row

end
-- ==== Proof.Value.Served.lean ====
/- The precondition read: every sequence uses a page, the pages it uses are pages of the cache, and the query and the
   keys are real. -/
module

public import proofs.«01_k».proof.Pre_served_KernelIdeal
public import proofs.«01_k».proof.Pre_served_ReferenceIdeal
public import proofs.«01_k».proof.Proof.Value.Row
public import Idealize.ShloMosaic.Lib.ReduceAll

@[expose] public section

set_option maxRecDepth 16384

noncomputable section

namespace Cert.Served

open Cert.Row Idealize.ShloMosaic

/-- The shape relations of the precondition over one device's arguments. -/
instance facts_kernel : Cert.Pre_served_KernelIdeal.Facts where
  shapeCasts_S8_S8x1 := by decide
  bcast_S8x1_S8x64_0_1 := by decide
  bcast_S_S8x64 := by decide
  reducesTo_S8x64_S_d0_1 := by decide
  h_S_ := by decide
  bcast_S_S8 := by decide
  reducesTo_S8_S_d0 := by decide
  bcast_S_S8x1x8x64 := by decide
  reducesTo_S8x1x8x64_S_d0_1_2_3 := by decide
  bcast_S_S64x16x8x64 := by decide
  reducesTo_S64x16x8x64_S_d0_1_2_3 := by decide

/-- The shape relations of the precondition over the whole arrays. -/
instance facts_reference : Cert.Pre_served_ReferenceIdeal.Facts where
  shapeCasts_S8_S8x1 := by decide
  bcast_S8x1_S8x64_0_1 := by decide
  bcast_S_S8x64 := by decide
  reducesTo_S8x64_S_d0_1 := by decide
  h_S_ := by decide
  bcast_S_S8 := by decide
  reducesTo_S8_S_d0 := by decide
  bcast_S_S8x1x8x64 := by decide
  reducesTo_S8x1x8x64_S_d0_1_2_3 := by decide
  bcast_S_S512x16x8x64 := by decide
  reducesTo_S512x16x8x64_S_d0_1_2_3 := by decide

open Cert.Pre_served_KernelIdeal

/-- The pattern of plus infinity. -/
theorem bits_top : Ideal.ofBits .f32 0x7F800000#32 = ⊤ := by simp [Ideal.ofBits, Ideal.ieee]

/-- An extended real whose absolute value is below plus infinity is a real. -/
theorem real_of_abs (x : EReal) (h : Ideal.cmp .olt (max x (-x)) ⊤ = 1#1) : ∃ r : ℝ, x = r := by
  have h' : max x (-x) < ⊤ := by
    by_contra hn
    exact absurd h (by simp [Ideal.cmp, hn])
  induction x with
  | bot => simp at h'
  | top => simp at h'
  | coe r => exact ⟨r, rfl⟩

/-- A bit given by a truth value is one where it is true. -/
theorem of_bit {p : Prop} [Decidable p] {w : BitVec 1} (e : w = if p then 1#1 else 0#1) (h : w = 1#1) : p := by
  by_contra hn
  rw [e, if_neg hn] at h
  exact absurd h (by decide)

/-- The signed order, not below, as a bit. -/
theorem sge_bit (x y : BitVec 32) : IntOp.cmpi CmpIPredicate.sge x y = if y.toInt ≤ x.toInt then 1#1 else 0#1 :=
  bit (y.toInt ≤ x.toInt)

/-- The shape without axes has one index. -/
instance : Subsingleton S_.Idx := ⟨fun _ _ => funext fun a => a.elim0⟩

section
variable (q : FVec Ideal S8x1x8x64 .f32) (k v : FVec Ideal S64x16x8x64 .f32) (bt : IVec S8x64 32) (lens : IVec S8 32)
  (h : fn (F := Ideal) q k v bt lens = fun _ => 1#1)
include h

/-- The precondition's four parts. -/
theorem parts : (∀ b : Fin 8, 1 ≤ (lens (ix1 b)).toInt)
    ∧ (∀ (b : Fin 8) (j : Fin 64), used lens b j → 0 ≤ (bt (ix2 b j)).toInt ∧ (bt (ix2 b j)).toInt < 512)
    ∧ (∀ i, ∃ r : ℝ, q i = r) ∧ ∀ i, ∃ r : ℝ, k i = r := by
  have h0 := congrFun h ix0
  simp only [fn, fn_part1] at h0
  obtain ⟨h1, hk⟩ := IntOp.andi_eq_one.1 h0
  obtain ⟨h2, hq⟩ := IntOp.andi_eq_one.1 h1
  obtain ⟨hl, hp⟩ := IntOp.andi_eq_one.1 h2
  refine ⟨fun b => ?_, fun b j hu => ?_, fun i => ?_, fun i => ?_⟩
  · exact of_bit (sge_bit _ _) (Host.reduce_andi_all _ _ _ _ _ hl (ix1 b))
  · have e := Host.reduce_andi_all _ _ _ _ _ hp (ix2 b j)
    have e' : IntOp.ori (~~~IntOp.cmpi CmpIPredicate.slt (BitVec.ofNat 32 j.val) (lens (ix1 b)))
        (IntOp.andi (IntOp.cmpi CmpIPredicate.sge (bt (ix2 b j)) 0#32) (IntOp.cmpi CmpIPredicate.slt (bt (ix2 b j)) 512#32)) = 1#1 := by
      have e'' := e
      pointwise at e''
      exact e''
    rw [slt_bit (BitVec.ofNat 32 j.val), if_pos (show (BitVec.ofNat 32 j.val).toInt < (lens (ix1 b)).toInt from hu)] at e'
    have a : IntOp.andi (IntOp.cmpi CmpIPredicate.sge (bt (ix2 b j)) 0#32) (IntOp.cmpi CmpIPredicate.slt (bt (ix2 b j)) 512#32) = 1#1 := by
      generalize IntOp.andi (IntOp.cmpi CmpIPredicate.sge (bt (ix2 b j)) 0#32) (IntOp.cmpi CmpIPredicate.slt (bt (ix2 b j)) 512#32) = w at e' ⊢
      revert w; decide
    obtain ⟨a1, a2⟩ := IntOp.andi_eq_one.1 a
    exact ⟨of_bit (sge_bit _ _) a1, of_bit (slt_bit _ _) a2⟩
  · have e := Host.reduce_andi_all _ _ _ _ _ hq i
    exact real_of_abs _ (bits_top ▸ e)
  · have e := Host.reduce_andi_all _ _ _ _ _ hk i
    exact real_of_abs _ (bits_top ▸ e)

end

end Cert.Served

end
-- ==== Proof.Value.RefOut.lean ====
/- The reference's result at an index: the softmax over a sequence's block table of the products of its query with the
   keys of the pages the table names, against the values of those pages. -/
module

public import proofs.«01_k».proof.Proof.Ref
public import proofs.«01_k».proof.Proof.Value.Row

@[expose] public section

set_option maxRecDepth 16384

noncomputable section

namespace Cert.RefOut

open Cert.ReferenceIdeal Cert.ReferenceIdeal.Gen Cert.RefRun Cert.Row
open Idealize.ShloMosaic

/-- The page a place of a block table names, clamped into the cache. -/
def entry (bt : IVec S8x64 32) (b : Fin 8) (j : Fin 64) : Fin 512 := ⟨min (bt (ix2 b j)).toInt.toNat 511, by omega⟩

/-- The gather of pages at an index: the page the place names. -/
theorem gather_at (x : FVec Ideal S512x16x8x64 .f32) (idx : IVec S8x64x1 32) (b : Fin 8) (j : Fin 64) (t : Fin 16) (h : Fin 8) (d : Fin 64) :
    Host.gather gather_S512x16x8x64_S8x64x1_S8x64x16x8x64_234_0_n_n_0_2_116864 x idx (ix5 b j t h d)
      = x (ix4 ⟨min (idx (ix3 b j 0)).toInt.toNat 511, by omega⟩ t h d) := by
  unfold Host.gather
  refine congrArg x (funext fun a => Fin.ext ?_)
  match a with
  | ⟨0, _⟩ =>
    have e : gather_S512x16x8x64_S8x64x1_S8x64x16x8x64_234_0_n_n_0_2_116864.siIdx (ix5 b j t h d) ⟨0, by decide⟩ = ix3 b j 0 := by
      funext z
      match z with
      | ⟨0, _⟩ => rfl
      | ⟨1, _⟩ => rfl
      | ⟨2, _⟩ => rfl
    show min (idx (gather_S512x16x8x64_S8x64x1_S8x64x16x8x64_234_0_n_n_0_2_116864.siIdx (ix5 b j t h d) ⟨0, by decide⟩)).toInt.toNat 511
      + 0 + 0 = _
    rw [e]; rfl
  | ⟨1, _⟩ => exact Nat.zero_add _
  | ⟨2, _⟩ => exact Nat.zero_add _
  | ⟨3, _⟩ => exact Nat.zero_add _

/-- The pages in the order of the block tables, at an index. -/
theorem taken_at (x : FVec Ideal S512x16x8x64 .f32) (bt : IVec S8x64 32) (b h : Fin 8) (n : Fin 1024) (d : Fin 64) :
    taken x bt (ix4 b n h d) = x (ix4 (entry bt b (split n).1) (split n).2 h d) := by
  pointwise [taken]
  rw [gather_at]
  pointwise
  rfl

/-- The page of a key, as the host's integer arithmetic has it: its number's quotient by sixteen, rounded down. -/
theorem host_page_word (n : Fin 1024) :
    Scalar.select
      (IntOp.andi
        (IntOp.cmpi CmpIPredicate.ne
          (if BitVec.ofNat 32 n = 0 then (0 : BitVec 32) else if (BitVec.ofNat 32 n).msb = true then -1 else 1)
          (if 16#32 = 0 then (0 : BitVec 32) else if (16#32).msb = true then -1 else 1))
        (IntOp.cmpi CmpIPredicate.ne (IntOp.remsi ArithUnit.host (BitVec.ofNat 32 n) 16#32) 0#32))
      (IntOp.subi (IntOp.divsi ArithUnit.host (BitVec.ofNat 32 n) 16#32) 1#32)
      (IntOp.divsi ArithUnit.host (BitVec.ofNat 32 n) 16#32) = BitVec.ofNat 32 (n / 16) := by
  revert n; decide +kernel

/-- A key lies within the length where its place in the block table is in use. -/
theorem within_at (lens : IVec S8 32) (b : Fin 8) (n : Fin 1024) :
    within lens (ix4 b 0 0 n) = if used lens b (split n).1 then 1#1 else 0#1 := by
  pointwise [within, pageNo, every, keyNo]
  exact (congrArg (fun z => IntOp.cmpi CmpIPredicate.slt z (lens (ix1 b))) (host_page_word n)).trans (slt_bit _ _)

section
variable (q : FVec Ideal S8x1x8x64 .f32) (k v : FVec Ideal S512x16x8x64 .f32) (bt : IVec S8x64 32) (lens : IVec S8 32) (b h : Fin 8)

/-- The score at a place of a block table and a place in its page; minus infinity past the sequence's length. -/
def score (x : Fin 64 × Fin 16) : EReal :=
  if used lens b x.1 then dot q (fun d => k (ix4 (entry bt b x.1) x.2 h d)) b h * ((1 / 8 : ℝ) : EReal) else ⊥

/-- The reference's scores: a used key's product with its query, and minus infinity past the sequence's end. -/
theorem scores_at (n : Fin 1024) : scores q (taken k bt) lens (ix4 b h 0 n) = score q k bt lens b h (split n) := by
  pointwise [scores]
  simp only [within_at, taken_at, bits_bot, bits_eighth, score, dot]
  by_cases hu : used lens b (split n).1
  · rw [if_pos hu, if_pos hu]; rfl
  · rw [if_neg hu, if_neg hu]; rfl

/-- Its exponentials: each of a score less the largest. -/
theorem expo_at (n : Fin 1024) :
    expo (scores q (taken k bt) lens) (ix4 b h 0 n)
      = Ideal.exp (score q k bt lens b h (split n) - Finset.univ.sup (score q k bt lens b h)) := by
  pointwise [expo, along]
  simp only [scores_at, bits_bot]
  rw [← sup_split (score q k bt lens b h)]
  rfl

/-- Its weights: each exponential over the sum of them all. -/
theorem normed_at (n : Fin 1024) :
    normed (expo (scores q (taken k bt) lens)) (ix4 b h 0 n)
      = Ideal.div (Ideal.exp (score q k bt lens b h (split n) - Finset.univ.sup (score q k bt lens b h)))
          (∑ y, Ideal.exp (score q k bt lens b h y - Finset.univ.sup (score q k bt lens b h))) := by
  pointwise [normed, along]
  simp only [expo_at]
  rw [← sum_split]

/-- The reference's result: the values, weighed by the softmax of the scores. -/
theorem out_at (d : Fin 64) :
    out q k v bt lens (ix4 b 0 h d)
      = ∑ x, v (ix4 (entry bt b x.1) x.2 h d)
          * Ideal.div (Ideal.exp (score q k bt lens b h x - Finset.univ.sup (score q k bt lens b h)))
              (∑ y, Ideal.exp (score q k bt lens b h y - Finset.univ.sup (score q k bt lens b h))) := by
  pointwise [out]
  simp only [taken_at, normed_at]
  exact sum_split fun x => v (ix4 (entry bt b x.1) x.2 h d)
    * Ideal.div (Ideal.exp (score q k bt lens b h x - Finset.univ.sup (score q k bt lens b h)))
        (∑ y, Ideal.exp (score q k bt lens b h y - Finset.univ.sup (score q k bt lens b h)))

end

end Cert.RefOut

end
-- ==== Proof.Value.Combine.lean ====
/- The statistics of all devices put together: their quotient is the softmax over the block table, that is, the
   reference's result. -/
module

public import proofs.«01_k».proof.Proof.Value.RefOut

@[expose] public section

set_option maxRecDepth 16384

noncomputable section

namespace Cert.Combine

open Cert.KernelIdeal Cert.KernelIdeal.Gen Cert.GatherStats Cert.Softmax Cert.Row Cert.RefOut
open Idealize.ShloMosaic

/-! ## The gathered rows -/

/-- The last step at an index: the values of all slots over their sums of weights, each rescaled to the largest score. -/
theorem last_at (a : Vec Ideal S8x64x66 .f32) (b h : Fin 8) (d : Fin 64) :
    k0_pay12 (F := Ideal) a (ix4 b 0 h d)
      = Ideal.div
          (∑ e : Fin 8, a (ix3 e (line b h) ⟨d.val, by omega⟩)
            * Ideal.exp (a (ix3 e (line b h) 64) - Finset.univ.sup fun e => a (ix3 e (line b h) 64)))
          (∑ e : Fin 8, a (ix3 e (line b h) 65)
            * Ideal.exp (a (ix3 e (line b h) 64) - Finset.univ.sup fun e => a (ix3 e (line b h) 64))) := by
  pointwise [k0_pay12]
  simp only [bits_bot]
  rfl

/-- A slot's element is the element of the row of the device that distance back. -/
theorem gathered_at (row : Dev nD → S1x64x66.Idx → EReal) (c : Dev nD) (e : Fin 8) (r : Fin 64) (x : Fin 66) :
    gathered (F := Ideal) row c (ix3 e r x) = row (peer c (-e)) (ix3 0 r x) := by
  refine congrArg (row (peer c (-e))) (funext fun a => ?_)
  match a with
  | ⟨0, _⟩ => rfl
  | ⟨1, _⟩ => rfl
  | ⟨2, _⟩ => rfl

/-- The slots are the devices, in another order. -/
def turn (c : Fin 8) : Fin 8 ≃ Fin 8 where
  toFun e := peer c (-e)
  invFun g := ⟨(c.val + 8 - g.val) % 8, Nat.mod_lt _ (by decide)⟩
  left_inv e := by revert c e; decide
  right_inv g := by revert c g; decide

/-! ## All pages of the cache -/

/-- Page `p` of device `c`'s shard, in the cache. -/
def pageOf (c : Fin 8) (p : Fin 64) : Fin 512 := ⟨64 * c.val + p.val, by omega⟩

/-- A sum over the devices and their pages is a sum over the cache. -/
theorem sum_cache (f : Fin 512 → Fin 16 → EReal) : ∑ c : Fin 8, ∑ x : Fin 64 × Fin 16, f (pageOf c x.1) x.2 = ∑ g, ∑ t, f g t := by
  rw [← (finProdFinEquiv (m := 8) (n := 64)).sum_comp fun g => ∑ t, f g t, Fintype.sum_prod_type]
  refine Finset.sum_congr rfl fun c _ => (Fintype.sum_prod_type _).trans (Finset.sum_congr rfl fun p _ => ?_)
  exact Finset.sum_congr rfl fun t _ => congrArg (f · t) (Fin.ext (Nat.add_comm _ _))

/-- Rows of scores, each summed from its own maximum, rescaled and added up over the slots. -/
theorem rescaled {ι : Type} [Fintype ι] (c : Fin 8) (s v : Fin 8 → ι → EReal) (hs : ∀ g i, s g i ≠ ⊤) (M : ℝ) :
    ∑ e : Fin 8, (∑ i, Ideal.exp (s (peer c (-e)) i - Finset.univ.sup (s (peer c (-e)))) * v (peer c (-e)) i)
        * Ideal.exp (Finset.univ.sup (s (peer c (-e))) - M)
      = ∑ g : Fin 8, ∑ i, Ideal.exp (s g i - M) * v g i := by
  rw [← (turn c).sum_comp fun g => ∑ i, Ideal.exp (s g i - M) * v g i]
  exact Finset.sum_congr rfl fun e _ => part _ _ (hs _) M

/-- The same without values. -/
theorem rescaled_one {ι : Type} [Fintype ι] (c : Fin 8) (s : Fin 8 → ι → EReal) (hs : ∀ g i, s g i ≠ ⊤) (M : ℝ) :
    ∑ e : Fin 8, (∑ i, Ideal.exp (s (peer c (-e)) i - Finset.univ.sup (s (peer c (-e)))))
        * Ideal.exp (Finset.univ.sup (s (peer c (-e))) - M)
      = ∑ g : Fin 8, ∑ i, Ideal.exp (s g i - M) := by
  simpa using rescaled c s (fun _ _ => 1) hs M

/-! ## One sequence and head -/

section
variable (q : FVec Ideal S8x1x8x64 .f32) (K V : FVec Ideal ⟨4, ![512, 16, 8, 64]⟩ .f32) (ks vs : Dev nD → FVec Ideal S64x16x8x64 .f32)
  (bt : IVec S8x64 32) (lens : IVec S8 32)

/-- A product of reals is a real. -/
theorem dot_real (b h : Fin 8) (k : Fin 64 → EReal) (hq : ∀ i, ∃ r : ℝ, q i = r) (hk : ∀ d, ∃ r : ℝ, k d = r) :
    ∃ r : ℝ, dot q k b h = r := by
  choose qr hqr using hq
  choose kr hkr using hk
  refine ⟨∑ d : Fin 64, qr (ix4 b 0 h d) * kr d, ?_⟩
  rw [← coe_sum]
  exact Finset.sum_congr rfl fun d _ => by rw [hqr, hkr, EReal.coe_mul]

/-- A page that exists is named by a word exactly when it is the page that the word's place names. -/
theorem names_iff (b : Fin 8) (j : Fin 64) (g : Fin 512) (h0 : 0 ≤ (bt (ix2 b j)).toInt) (h1 : (bt (ix2 b j)).toInt < 512) :
    bt (ix2 b j) = BitVec.ofNat 32 g.val ↔ entry bt b j = g := by
  have e : (BitVec.ofNat 32 g.val).toInt = g.val := by revert g; decide +kernel
  rw [← BitVec.toInt_inj, e, Fin.ext_iff]
  simp only [entry]
  omega

/-- The counts are of the places that name the page. -/
theorem count_eq (b : Fin 8) (g : Fin 512)
    (hp : ∀ j, used lens b j → 0 ≤ (bt (ix2 b j)).toInt ∧ (bt (ix2 b j)).toInt < 512) :
    Row.count bt lens b g.val = (Finset.univ.filter fun j => used lens b j ∧ entry bt b j = g).card := by
  unfold Row.count
  congr 1
  refine Finset.filter_congr fun j _ => and_congr_right fun hu => names_iff bt b j g (hp j hu).1 (hp j hu).2

/-- All devices' rows, put together, are the reference's result. -/
theorem result (hks : ∀ c p t h d, ks c (ix4 p t h d) = K (ix4 (pageOf c p) t h d))
    (hvs : ∀ c p t h d, vs c (ix4 p t h d) = V (ix4 (pageOf c p) t h d))
    (hq : ∀ i, ∃ r : ℝ, q i = r) (hk : ∀ i, ∃ r : ℝ, K i = r) (b : Fin 8) (hl : used lens b 0)
    (hp : ∀ j, used lens b j → 0 ≤ (bt (ix2 b j)).toInt ∧ (bt (ix2 b j)).toInt < 512) (c : Dev nD) (h : Fin 8) (d : Fin 64) :
    k0_pay12 (F := Ideal) (gathered (F := Ideal) (fun c => stats (F := Ideal) (axisWord c) q (ks c) (vs c) bt lens) c) (ix4 b 0 h d)
      = RefRun.out q K V bt lens (ix4 b 0 h d) := by
  choose z hz using fun (g : Fin 512) (t : Fin 16) => dot_real q b h (fun d => K (ix4 g t h d)) hq fun d => hk _
  have hS : ∀ (g : Fin 8) (x : Fin 64 × Fin 16), Row.score g q (ks g) bt lens b h x
      = ((z (pageOf g x.1) x.2 * (1 / 8) : ℝ) : EReal)
        + logCount (Finset.univ.filter fun j => used lens b j ∧ entry bt b j = pageOf g x.1).card := fun g x => by
    rw [← count_eq bt lens b _ hp, EReal.coe_mul, ← hz]
    simp only [Row.score, hks]
    rfl
  have hT : ∀ (g : Fin 8) x, Row.score g q (ks g) bt lens b h x ≠ ⊤ := fun g x => by
    rw [hS]
    exact EReal.add_ne_top (EReal.coe_ne_top _) (logCount_ne_top _)
  have hR : ∀ x, RefOut.score q K bt lens b h x
      = if used lens b x.1 then ((z (entry bt b x.1) x.2 * (1 / 8) : ℝ) : EReal) else ⊥ := fun x => by
    simp only [RefOut.score, hz, EReal.coe_mul]
  have hR' : ∀ x, RefOut.score q K bt lens b h x ≠ ⊤ := fun x => by
    rw [hR]; split
    · exact EReal.coe_ne_top _
    · exact bot_ne_top
  -- the largest score is a real
  obtain ⟨M, hM⟩ : ∃ M : ℝ, (Finset.univ.sup fun e : Fin 8 =>
      Finset.univ.sup (Row.score (peer c (-e)) q (ks (peer c (-e))) bt lens b h)) = M := by
    have top := sup_ne_top (fun e : Fin 8 => Finset.univ.sup (Row.score (peer c (-e)) q (ks (peer c (-e))) bt lens b h))
      fun e => sup_ne_top _ (hT _)
    have bot : (Finset.univ.sup fun e : Fin 8 =>
        Finset.univ.sup (Row.score (peer c (-e)) q (ks (peer c (-e))) bt lens b h)) ≠ ⊥ := by
      have hg : entry bt b 0 = pageOf ⟨(entry bt b 0).val / 64, by omega⟩ ⟨(entry bt b 0).val % 64, by omega⟩ :=
        Fin.ext (by show (entry bt b 0).val = 64 * ((entry bt b 0).val / 64) + (entry bt b 0).val % 64; omega)
      obtain ⟨e, he⟩ := (turn c).surjective ⟨(entry bt b 0).val / 64, by omega⟩
      refine sup_ne_bot _ e (sup_ne_bot _ (⟨(entry bt b 0).val % 64, by omega⟩, 0) ?_)
      have he' : peer c (-e) = (⟨(entry bt b 0).val / 64, by omega⟩ : Fin 8) := he
      rw [he', hS]
      have hn : (Finset.univ.filter fun j => used lens b j
          ∧ entry bt b j = pageOf ⟨(entry bt b 0).val / 64, by omega⟩ ⟨(entry bt b 0).val % 64, by omega⟩).card ≠ 0 :=
        Finset.card_ne_zero_of_mem (a := 0) (Finset.mem_filter.2 ⟨Finset.mem_univ _, hl, hg⟩)
      rw [logCount, if_neg hn, ← EReal.coe_add]
      exact EReal.coe_ne_bot _
    exact ⟨_, (EReal.coe_toReal top bot).symm⟩
  rw [last_at, out_at]
  simp only [gathered_at, stats_value, stats_max, stats_sum, hM]
  rw [rescaled c (fun g => Row.score g q (ks g) bt lens b h) (fun g x => vs g (ix4 x.1 x.2 h d)) hT M,
    rescaled_one c (fun g => Row.score g q (ks g) bt lens b h) hT M]
  simp only [hS, hvs]
  rw [sum_cache fun g t => Ideal.exp (((z g t * (1 / 8) : ℝ) : EReal)
      + logCount (Finset.univ.filter fun j => used lens b j ∧ entry bt b j = g).card - M) * V (ix4 g t h d),
    sum_cache fun g t => Ideal.exp (((z g t * (1 / 8) : ℝ) : EReal)
      + logCount (Finset.univ.filter fun j => used lens b j ∧ entry bt b j = g).card - M),
    pages (fun g t => z g t * (1 / 8)) (fun g t => V (ix4 g t h d)) (entry bt b) (used lens b) M]
  have one := pages (fun g t => z g t * (1 / 8)) (fun _ _ => 1) (entry bt b) (used lens b) M
  simp only [mul_one] at one
  rw [one, ← quotient _ (fun x => V (ix4 (entry bt b x.1) x.2 h d)) hR' (0, 0) (by rw [hR, if_pos hl]; exact EReal.coe_ne_bot _) M]
  simp only [hR, Fintype.sum_prod_type]

end

end Cert.Combine

end
-- ==== Proof.Value.Claim.lean ====
/- The kernel's result and the reference's are one array on the extended reals. -/
module

public import proofs.«01_k».proof.Proof.Frames
public import proofs.«01_k».proof.Proof.Value.Combine
public import proofs.«01_k».proof.Proof.Value.Served

@[expose] public section

set_option maxRecDepth 16384

noncomputable section

namespace Cert.Proof.Claims

open Cert.KernelIdeal Cert.KernelIdeal.Gen Cert.GatherStats
open Idealize.ShloMosaic Idealize.ShloMosaic.TcCoe Idealize.SL.Sem

section
variable {F : FTy → Type} [FloatOps F] [Named F] (m : (ℓ : Loc nD τ sig) → Buf (Elt F) ℓ) (ρ : Dev nD → PrngReg) (c : Dev nD)

/-! Each operand's one block is the whole array. -/

/-- The block of argument 0 is the argument. -/
theorem qIn_eq : qIn m c = m ((c : Thread nD τ).loc main_arg0) :=
  Memref.read_access_unit_zero (Elt F) main_arg0 (funext fun a => by fin_cases a <;> decide) (fun a => by fin_cases a <;> decide) _

/-- The block of argument 1 is the argument. -/
theorem kIn_eq : kIn m c = m ((c : Thread nD τ).loc main_arg1) :=
  Memref.read_access_unit_zero (Elt F) main_arg1 (funext fun a => by fin_cases a <;> decide) (fun a => by fin_cases a <;> decide) _

/-- The block of argument 2 is the argument. -/
theorem vIn_eq : vIn m c = m ((c : Thread nD τ).loc main_arg2) :=
  Memref.read_access_unit_zero (Elt F) main_arg2 (funext fun a => by fin_cases a <;> decide) (fun a => by fin_cases a <;> decide) _

/-- The block of argument 3 is the argument. -/
theorem btIn_eq : btIn m c = m ((c : Thread nD τ).loc main_arg3) :=
  Memref.read_access_unit_zero (Elt F) main_arg3 (funext fun a => by fin_cases a <;> decide) (fun a => by fin_cases a <;> decide) _

/-- The block of argument 4 is the argument. -/
theorem lensIn_eq : lensIn m c = m ((c : Thread nD τ).loc main_arg4) :=
  Memref.read_access_unit_zero (Elt F) main_arg4 (funext fun a => by fin_cases a <;> decide) (fun a => by fin_cases a <;> decide) _

/-- After the run the result array holds what the body left in its block, which is the whole array. -/
theorem finalA_out : finalA m ρ c (5 : Fin 6) = outAt m c := by
  have e : (win0_5.blk (0 : Fin 1)).view.read (Elt F) (finalA m ρ c (5 : Fin 6)) = outAt m c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (Memref.read_access_unit_zero (Elt F) main_v1 (funext fun a => by fin_cases a <;> decide)
    (fun a => by fin_cases a <;> decide) _).symm.trans e

end

section
variable (K : FVec Ideal ⟨4, ![512, 16, 8, 64]⟩ .f32)

/-- A device's block of the pages, at an index. -/
theorem block_at (c : Dev nD) (p : Fin 64) (t : Fin 16) (h : Fin 8) (d : Fin 64) :
    (Layout.block ⟨4, ![64, 16, 8, 64]⟩ ⟨4, ![512, 16, 8, 64]⟩ 0 8 c K) (ix4 p t h d) = K (ix4 (Combine.pageOf c p) t h d) := by
  rw [Layout.block_apply]
  refine congrArg K (funext fun a => Fin.ext ?_)
  rw [Layout.Tiles.idx_val]
  fin_cases a
  · simp [Combine.pageOf]; exact Nat.mul_comm _ _
  · rfl
  · rfl
  · rfl

/-- Every page is one of some device's. -/
theorem page_of (g : Fin 512) : ∃ (c : Dev nD) (p : Fin 64), Combine.pageOf c p = g :=
  ⟨(⟨g.val / 64, by omega⟩ : Fin 8), (⟨g.val % 64, by omega⟩ : Fin 64), Fin.ext (by show 64 * (g.val / 64) + g.val % 64 = g.val; omega)⟩

end

/-- Under the precondition on every device's arguments, every device's result is the reference's. -/
theorem result_all (q : FVec Ideal S8x1x8x64 .f32) (K V : FVec Ideal ⟨4, ![512, 16, 8, 64]⟩ .f32)
    (ks vs : Dev nD → FVec Ideal S64x16x8x64 .f32) (bt : IVec S8x64 32) (lens : IVec S8 32)
    (hks : ∀ c, ks c = Layout.block ⟨4, ![64, 16, 8, 64]⟩ ⟨4, ![512, 16, 8, 64]⟩ 0 8 c K)
    (hvs : ∀ c, vs c = Layout.block ⟨4, ![64, 16, 8, 64]⟩ ⟨4, ![512, 16, 8, 64]⟩ 0 8 c V)
    (hpre : ∀ c, Cert.Pre_served_KernelIdeal.fn (F := Ideal) q (ks c) (vs c) bt lens = fun _ => 1#1) (c : Dev nD) :
    k0_pay12 (gathered (fun c => stats (axisWord c) q (ks c) (vs c) bt lens) c) = RefRun.out q K V bt lens := by
  have hs := fun c => Cert.Served.parts _ _ _ _ _ (hpre c)
  have hk : ∀ i, ∃ r : ℝ, K i = r := fun i => by
    obtain ⟨c, p, hp⟩ := page_of (i 0)
    obtain ⟨r, hr⟩ := (hs c).2.2.2 (ix4 p (i 1) (i 2) (i 3))
    have hi : i = ix4 (Combine.pageOf c p) (i 1) (i 2) (i 3) := by
      rw [hp]
      exact funext fun a => by fin_cases a <;> rfl
    rw [hi]
    exact ⟨r, (block_at K c p _ _ _).symm.trans ((congrFun (hks c) _).symm.trans hr)⟩
  have h0 := hs 0
  funext i
  have hi : i = ix4 (i 0) (0 : Fin 1) (i 2) (i 3) :=
    funext fun a => by
      fin_cases a
      · rfl
      · exact Subsingleton.elim (α := Fin 1) _ _
      · rfl
      · rfl
  rw [hi]
  exact Combine.result q K V ks vs bt lens
    (fun c p t h d => (congrFun (hks c) _).trans (block_at K c p t h d))
    (fun c p t h d => (congrFun (hvs c) _).trans (block_at V c p t h d))
    h0.2.2.1 hk (i 0) (lt_of_lt_of_le (by decide) (h0.1 (i 0))) (fun j hu => h0.2.1 (i 0) j hu) c (i 2) (i 3)

/-- The value claim: the kernel on eight devices and the reference end with one result. -/
theorem algebraic : Cert.algebraic_KernelIdeal_ReferenceIdeal_pre_served_KernelIdeal
    (hPre_served_KernelIdeal := Cert.Served.facts_kernel) := by
  intro m g m' g' hpre hag
  refine ⟨RefRun.out (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono
      (fun _ r c => ⟨((r.1 c 5).trans (finalA_out m g c)).trans ?_, (r.1 c 0).trans (finalA_q m g c), (r.1 c 1).trans (finalA_k m g c),
        (r.1 c 2).trans (finalA_v m g c), (r.1 c 3).trans (finalA_bt m g c), (r.1 c 4).trans (finalA_lens m g c)⟩)
      (run_main (F := Ideal) m g)
    generalize m' (((0 : Dev Cert.ReferenceIdeal.nD).tc : Thread Cert.ReferenceIdeal.nD Cert.ReferenceIdeal.τ).loc Cert.ReferenceIdeal.main_arg0) = q at hag ⊢
    generalize m' (((0 : Dev Cert.ReferenceIdeal.nD).tc : Thread Cert.ReferenceIdeal.nD Cert.ReferenceIdeal.τ).loc Cert.ReferenceIdeal.main_arg1) = K at hag ⊢
    generalize m' (((0 : Dev Cert.ReferenceIdeal.nD).tc : Thread Cert.ReferenceIdeal.nD Cert.ReferenceIdeal.τ).loc Cert.ReferenceIdeal.main_arg2) = V at hag ⊢
    generalize m' (((0 : Dev Cert.ReferenceIdeal.nD).tc : Thread Cert.ReferenceIdeal.nD Cert.ReferenceIdeal.τ).loc Cert.ReferenceIdeal.main_arg3) = bt at hag ⊢
    generalize m' (((0 : Dev Cert.ReferenceIdeal.nD).tc : Thread Cert.ReferenceIdeal.nD Cert.ReferenceIdeal.τ).loc Cert.ReferenceIdeal.main_arg4) = lens at hag ⊢
    have hrow : GatherStats.row m = fun c => stats (axisWord c) q (m ((c : Thread nD τ).loc main_arg1)) (m ((c : Thread nD τ).loc main_arg2)) bt lens :=
      funext fun c => by
        unfold GatherStats.row
        rw [qIn_eq, kIn_eq, vIn_eq, btIn_eq, lensIn_eq]
        rw [(hag c).1, (hag c).2.2.2.1, (hag c).2.2.2.2]
    unfold outAt
    rw [hrow]
    refine result_all q K V _ _ bt lens (fun c => (hag c).2.1) (fun c => (hag c).2.2.1) (fun c => ?_) _
    have h := hpre c
    rw [(hag c).1, (hag c).2.2.2.1, (hag c).2.2.2.2] at h
    exact h
  · exact (θ_run Cert.ReferenceIdeal.defs _ _).mono (fun _ h => h 0) (RefRun.run_main m' g')

end Cert.Proof.Claims

end
-- ==== Proof.lean ====
/- The certificate's claims, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Value.Served
public import proofs.«01_k».proof.Proof.Value.Claim
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim :=
  ⟨Cert.Kernel.Gen.facts, Cert.KernelIdeal.Gen.facts, Cert.ReferenceIdeal.Gen.facts,
    Cert.Served.facts_kernel, Cert.Served.facts_reference,
    Claims.frame_p, Claims.frame_pi, fun m ρ _ => Claims.frame_pi m ρ trivial,
    Claims.frame_ri, fun m ρ _ => Claims.frame_ri m ρ trivial, Claims.preserves, Claims.algebraic⟩

end Cert.Proof

end
